-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x2048 : Shape := ⟨2, ![2048, 2048]⟩
abbrev S512x2048 : Shape := ⟨2, ![512, 2048]⟩
abbrev S3x8x128 : Shape := ⟨3, ![3, 8, 128]⟩
abbrev S3x512x512 : Shape := ⟨3, ![3, 512, 512]⟩
abbrev S3x512x2048 : Shape := ⟨3, ![3, 512, 2048]⟩
abbrev S3 : Shape := ⟨1, ![3]⟩
abbrev S5 : Shape := ⟨1, ![5]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x512x2048 : Shape := ⟨3, ![1, 512, 2048]⟩
abbrev S512x512 : Shape := ⟨2, ![512, 512]⟩
abbrev S1x512x512 : Shape := ⟨3, ![1, 512, 512]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .local _ .vmem, ⟨0, _⟩ => ⟨S2048x512, .f32⟩
  | .local _ .vmem, ⟨1, _⟩ => ⟨S512x2048, .f32⟩
  | .local _ .vmem, ⟨2, _⟩ => ⟨S2048x512, .i8⟩
  | .local _ .vmem, ⟨3, _⟩ => ⟨S3x8x128, .f32⟩
  | .local _ .vmem, ⟨4, _⟩ => ⟨S3x512x512, .i8⟩
  | .local _ .vmem, ⟨5, _⟩ => ⟨S3x8x128, .f32⟩
  | .local _ .vmem, ⟨6, _⟩ => ⟨S3x512x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v16 : BitVec 32 := Scalar.muli v2 c512_i32
  let c0_i32_16 : BitVec 32 := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_17 : BitVec 32 := 512#32
  let v22 : BitVec 32 := Scalar.muli v2 c512_i32_17
  let c1024_i32_21 : BitVec 32 := 1024#32
  ![v22.toNat, 1024]
def k0_off3 (d0 : Dev nD) (c3_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.addi v2 c3_i32_22
  let c4_i32_23 : BitVec 32 := 4#32
  let v29 : BitVec 32 := Scalar.remsi v28 c4_i32_23
  let c512_i32_24 : BitVec 32 := 512#32
  let v30 : BitVec 32 := Scalar.muli v29 c512_i32_24
  let c0_i32_29 : BitVec 32 := 0#32
  ![v30.toNat, 0]
def k0_off4 (d0 : Dev nD) (c1_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c1_i32_38
  let c4_i32_39 : BitVec 32 := 4#32
  let v45 : BitVec 32 := Scalar.remsi v44 c4_i32_39
  let c512_i32_40 : BitVec 32 := 512#32
  let v46 : BitVec 32 := Scalar.muli v45 c512_i32_40
  let v47 : Index := Scalar.indexCast v46
  let c0 : Index := 0#32
  ![v47.toNat, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v71 : BitVec 32 := Scalar.addi v2 c1_i32_50
  let c4_i32_51 : BitVec 32 := 4#32
  let v72 : BitVec 32 := Scalar.remsi v71 c4_i32_51
  let c1_i32_56 : BitVec 32 := 1#32
  let v73 : BitVec 32 := Scalar.muli v72 c1_i32_56
  let v74 : BitVec 32 := Scalar.addi c0_i32_57 v73
  v74.toNat
def k0_off5 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c1_i32_50
  let c4_i32_51 : BitVec 32 := 4#32
  let v72 : BitVec 32 := Scalar.remsi v71 c4_i32_51
  let c512_i32_62 : BitVec 32 := 512#32
  let v83 : BitVec 32 := Scalar.muli v72 c512_i32_62
  let c0_i32_70 : BitVec 32 := 0#32
  ![v83.toNat, 0]
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v71 : BitVec 32 := Scalar.addi v2 c1_i32_50
  let c4_i32_51 : BitVec 32 := 4#32
  let v72 : BitVec 32 := Scalar.remsi v71 c4_i32_51
  let c1_i32_66 : BitVec 32 := 1#32
  let v84 : BitVec 32 := Scalar.muli v72 c1_i32_66
  let v85 : BitVec 32 := Scalar.addi c0_i32_67 v84
  v85.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_83 : BitVec 32 := 3#32
  let v120 : BitVec 32 := Scalar.addi v2 c3_i32_83
  let c4_i32_84 : BitVec 32 := 4#32
  let v121 : BitVec 32 := Scalar.remsi v120 c4_i32_84
  let c1_i32_89 : BitVec 32 := 1#32
  let v122 : BitVec 32 := Scalar.muli v121 c1_i32_89
  let v123 : BitVec 32 := Scalar.addi c0_i32_90 v122
  v123.toNat
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_83 : BitVec 32 := 3#32
  let v120 : BitVec 32 := Scalar.addi v2 c3_i32_83
  let c4_i32_84 : BitVec 32 := 4#32
  let v121 : BitVec 32 := Scalar.remsi v120 c4_i32_84
  let c1_i32_99 : BitVec 32 := 1#32
  let v133 : BitVec 32 := Scalar.muli v121 c1_i32_99
  let v134 : BitVec 32 := Scalar.addi c0_i32_100 v133
  v134.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_116 : BitVec 32 := 2#32
  let v169 : BitVec 32 := Scalar.addi v2 c2_i32_116
  let c4_i32_117 : BitVec 32 := 4#32
  let v170 : BitVec 32 := Scalar.remsi v169 c4_i32_117
  let c1_i32_122 : BitVec 32 := 1#32
  let v171 : BitVec 32 := Scalar.muli v170 c1_i32_122
  let v172 : BitVec 32 := Scalar.addi c0_i32_123 v171
  v172.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_116 : BitVec 32 := 2#32
  let v169 : BitVec 32 := Scalar.addi v2 c2_i32_116
  let c4_i32_117 : BitVec 32 := 4#32
  let v170 : BitVec 32 := Scalar.remsi v169 c4_i32_117
  let c1_i32_132 : BitVec 32 := 1#32
  let v182 : BitVec 32 := Scalar.muli v170 c1_i32_132
  let v183 : BitVec 32 := Scalar.addi c0_i32_133 v182
  v183.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_137 : BitVec 32 := 512#32
  let v191 : BitVec 32 := Scalar.muli v2 c512_i32_137
  let v192 : Index := Scalar.indexCast v191
  let c0_138 : Index := 0#32
  ![v192.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S4x512x4x512 : Shape := ⟨4, ![4, 512, 4, 512]⟩
abbrev S_ : Shape := ⟨0, ![]⟩
abbrev S4x4 : Shape := ⟨2, ![4, 4]⟩
abbrev S4x1x4x1 : Shape := ⟨4, ![4, 1, 4, 1]⟩
abbrev S4 : Shape := ⟨1, ![4]⟩
abbrev S4x1 : Shape := ⟨2, ![4, 1]⟩
abbrev S1x4 : Shape := ⟨2, ![1, 4]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x4x512, .f32⟩
  | .hbm, ⟨3, _⟩ => ⟨S4x512x4x512, .f32⟩
  | .hbm, ⟨4, _⟩ => ⟨S_, .f32⟩
  | .hbm, ⟨5, _⟩ => ⟨S4x4, .f32⟩
  | .hbm, ⟨6, _⟩ => ⟨S4x1x4x1, .f32⟩
  | .hbm, ⟨7, _⟩ => ⟨S_, .f32⟩
  | .hbm, ⟨8, _⟩ => ⟨S4x1x4x1, .f32⟩
  | .hbm, ⟨9, _⟩ => ⟨S4x1x4x1, .f32⟩
  | .hbm, ⟨10, _⟩ => ⟨S_, .f32⟩
  | .hbm, ⟨11, _⟩ => ⟨S4x1x4x1, .f32⟩
  | .hbm, ⟨12, _⟩ => ⟨S4x1x4x1, .f32⟩
  | .hbm, ⟨13, _⟩ => ⟨S4x512x4x512, .f32⟩
  | .hbm, ⟨14, _⟩ => ⟨S4x512x4x512, .f32⟩
  | .hbm, ⟨15, _⟩ => ⟨S4x512x4x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x512x4x512, .f32⟩
  | .hbm, ⟨20, _⟩ => ⟨S4x512x4x512, .f32⟩
  | .hbm, ⟨21, _⟩ => ⟨S_, .f32⟩
  | .hbm, ⟨22, _⟩ => ⟨S4x512x4x512, .f32⟩
  | .hbm, ⟨23, _⟩ => ⟨S4x512x4x512, .f32⟩
  | .hbm, ⟨24, _⟩ => ⟨S_, .f32⟩
  | .hbm, ⟨25, _⟩ => ⟨S4x1x4x1, .f32⟩
  | .hbm, ⟨26, _⟩ => ⟨S4x1x4x1, .f32⟩
  | .hbm, ⟨27, _⟩ => ⟨S4x512x4x512, .f32⟩
  | .hbm, ⟨28, _⟩ => ⟨S4x512x4x512, .f32⟩
  | .hbm, ⟨29, _⟩ => ⟨S4, .i32⟩
  | .hbm, ⟨30, _⟩ => ⟨S4x1, .i32⟩
  | .hbm, ⟨31, _⟩ => ⟨S4, .i32⟩
  | .hbm, ⟨32, _⟩ => ⟨S1x4, .i32⟩
  | .hbm, ⟨33, _⟩ => ⟨S4x4, .i32⟩
  | .hbm, ⟨34, _⟩ => ⟨S4x4, .i32⟩
  | .hbm, ⟨35, _⟩ => ⟨S4x4, .i1⟩
  | .hbm, ⟨36, _⟩ => ⟨S4x1x4x1, .i1⟩
  | .hbm, ⟨37, _⟩ => ⟨S4x512x4x512, .i1⟩
  | .hbm, ⟨38, _⟩ => ⟨S4x512x4x512, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Protocol.lean ====
/-
The exchange's protocol, stated once for a device `c` and a slot `s`.

In slot `s` a device sends one quantised tile and its scale to the device `s + 1` places after it on the ring of four
(`peer c s`), and receives one of each from the device `s + 1` places before it (`back c s`). Per device there are
thirteen semaphores in the protocol:

* the barrier semaphore: three duties of one unit; duty `s` is paid by `peer c s`, which by its signal lends `c` its own
  slot `s` of the two receive buffers, the places `c` will send into; `c` waits for three;
* per slot, the send semaphore of the tile and of the scale: paid by the device's own transfer, giving the source back;
* per slot, the receive semaphore of the tile and of the scale: paid by the transfer of `back c s`, giving the slot
  holding that device's tile (and scale).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb

/-! ## The ring of four -/

/-- The device `s + 1` places after `c`; -/
def peer (c : Dev nD) (s : Fin 3) : Dev nD := ⟨(c.val + s.val + 1) % 4, Nat.mod_lt _ (by decide)⟩
/-- the device `s + 1` places before it. -/
def back (c : Dev nD) (s : Fin 3) : Dev nD := ⟨(c.val + 3 - s.val) % 4, Nat.mod_lt _ (by decide)⟩

theorem back_peer (c : Dev nD) (s : Fin 3) : back (peer c s) s = c := by revert c s; decide
theorem peer_back (c : Dev nD) (s : Fin 3) : peer (back c s) s = c := by revert c s; decide

/-- The devices shifted by `s + 1` places. -/
def shift (s : Fin 3) : Dev nD ≃ Dev nD := ⟨fun c => peer c s, fun c => back c s, fun c => back_peer c s, fun c => peer_back c s⟩

theorem dev1_eq (c : Dev nD) : (⟨k0_dev1 c, k0_dev1_lt c⟩ : Dev nD) = back c 2 := Fin.ext ((k0_dev1_eq c).trans (by revert c; decide))
theorem dev2_eq (c : Dev nD) : (⟨k0_dev2 c, k0_dev2_lt c⟩ : Dev nD) = back c 1 := Fin.ext ((k0_dev2_eq c).trans (by revert c; decide))
theorem dev3_eq (c : Dev nD) : (⟨k0_dev3 c, k0_dev3_lt c⟩ : Dev nD) = back c 0 := Fin.ext ((k0_dev3_eq c).trans (by revert c; decide))
theorem dev4_eq (c : Dev nD) : (⟨k0_dev4 c, k0_dev4_lt c⟩ : Dev nD) = peer c 0 := Fin.ext ((k0_dev4_eq c).trans (by revert c; decide))
theorem dev5_eq (c : Dev nD) : (⟨k0_dev5 c, k0_dev5_lt c⟩ : Dev nD) = peer c 0 := Fin.ext ((k0_dev5_eq c).trans (by revert c; decide))
theorem dev6_eq (c : Dev nD) : (⟨k0_dev6 c, k0_dev6_lt c⟩ : Dev nD) = peer c 2 := Fin.ext ((k0_dev6_eq c).trans (by revert c; decide))
theorem dev7_eq (c : Dev nD) : (⟨k0_dev7 c, k0_dev7_lt c⟩ : Dev nD) = peer c 2 := Fin.ext ((k0_dev7_eq c).trans (by revert c; decide))
theorem dev8_eq (c : Dev nD) : (⟨k0_dev8 c, k0_dev8_lt c⟩ : Dev nD) = peer c 1 := Fin.ext ((k0_dev8_eq c).trans (by revert c; decide))
theorem dev9_eq (c : Dev nD) : (⟨k0_dev9 c, k0_dev9_lt c⟩ : Dev nD) = peer c 1 := Fin.ext ((k0_dev9_eq c).trans (by revert c; decide))

/-! ## The memrefs -/

abbrev xM : Memref sig .tc .vmem S2048x512 .f32 := Memref.whole cc0_stg0_0
abbrev wM : Memref sig .tc .hbm S2048x2048 .f32 := Memref.whole main_arg1
abbrev oM : Memref sig .tc .vmem S512x2048 .f32 := Memref.whole cc0_stg1_0
abbrev tileM : Memref sig .tc .vmem S2048x512 .i8 := Memref.whole cc0_scratch0
abbrev scaleM : Memref sig .tc .vmem S3x8x128 .f32 := Memref.whole cc0_scratch1
abbrev rtileM : Memref sig .tc .vmem S3x512x512 .i8 := Memref.whole cc0_scratch2
abbrev rscaleM : Memref sig .tc .vmem S3x8x128 .f32 := Memref.whole cc0_scratch3
abbrev wbufM : Memref sig .tc .vmem S3x512x2048 .f32 := Memref.whole cc0_scratch4

theorem slot_scale_inb (s : Fin 3) : ∀ a, (![s.val, 0, 0] : Fin 3 → ℕ) a + S1x8x128.size a ≤ S3x8x128.size a := by revert s; decide
theorem slot_tile_inb (s : Fin 3) : ∀ a, (![s.val, 0, 0] : Fin 3 → ℕ) a + S1x512x512.size a ≤ S3x512x512.size a := by revert s; decide
theorem slot_w_inb (s : Fin 3) : ∀ a, (![s.val, 0, 0] : Fin 3 → ℕ) a + S1x512x2048.size a ≤ S3x512x2048.size a := by revert s; decide

/-- Rows of `x` (and of the quantised copy) that go to `peer c s`. -/
abbrev rowsR (c : Dev nD) (s : Fin 3) : Rect S2048x512 :=
  Rect.unit (s := S2048x512) (k0_off4 c (BitVec.ofNat 32 (1 + s.val))) S512x512.size (k0_off4_inb c s)
abbrev scaleR (s : Fin 3) : Rect S3x8x128 := Rect.unit (s := S3x8x128) ![s.val, 0, 0] S1x8x128.size (slot_scale_inb s)
abbrev rtileR (s : Fin 3) : Rect S3x512x512 := Rect.unit (s := S3x512x512) ![s.val, 0, 0] S1x512x512.size (slot_tile_inb s)
abbrev wslotR (s : Fin 3) : Rect S3x512x2048 := Rect.unit (s := S3x512x2048) ![s.val, 0, 0] S1x512x2048.size (slot_w_inb s)

/-- The source of a tile's transfer, of a scale's; their destinations. -/
abbrev tileS (c : Dev nD) (s : Fin 3) : Memref sig .tc .vmem S512x512 .i8 := tileM.slice (rowsR c s) (fun _ => rfl)
abbrev scaleS (s : Fin 3) : Memref sig .tc .vmem S8x128 .f32 := (scaleM.slice (scaleR s) (fun _ => rfl)).squeeze S8x128 squeezes_S1x8x128_S8x128
abbrev rtileS (s : Fin 3) : Memref sig .tc .vmem S512x512 .i8 := (rtileM.slice (rtileR s) (fun _ => rfl)).squeeze S512x512 squeezes_S1x512x512_S512x512
abbrev rscaleS (s : Fin 3) : Memref sig .tc .vmem S8x128 .f32 := (rscaleM.slice (scaleR s) (fun _ => rfl)).squeeze S8x128 squeezes_S1x8x128_S8x128

/-! ## The semaphores and the cells -/

abbrev barS : Sem sig := (SemArray.scalar (sig.barrier 0 rfl) : Sems sig S_).sem
/-- The exchange's DMA semaphores: kind 0 a tile's send, 1 a tile's receive, 2 a scale's send, 3 a scale's receive. -/
def xsem (j : Fin 4) (s : Fin 3) : DmaSem sig := ⟨2 + 3 * j.val + s.val, by revert j s; decide⟩
/-- The local copies' semaphores. -/
def wsem (i : Fin 5) : DmaSem sig := ⟨14 + i.val, by revert i; decide⟩

/-- The protocol's cells of one device: the barrier, or a kind and a slot. -/
abbrev CK : Type := Option (Fin 4 × Fin 3)
def csem : CK → SemLoc sig
  | none => .reg barS
  | some (j, s) => .dma (xsem j s)
abbrev kcell (ck : Dev nD × CK) : GSem nD τ sig := ((ck.1 : Thread nD τ), csem ck.2)
abbrev barCell (c : Dev nD) : GSem nD τ sig := ((c : Thread nD τ), .reg barS)
abbrev xcell (c : Dev nD) (j : Fin 4) (s : Fin 3) : GSem nD τ sig := ((c : Thread nD τ), .dma (xsem j s))

/-- Which of them a semaphore is. -/
def kind : SemLoc sig → Option CK
  | .reg _ => some none
  | .dma n => if 2 ≤ n.val ∧ n.val < 14 then
      some (some (⟨(n.val - 2) / 3 % 4, Nat.mod_lt _ (by decide)⟩, ⟨(n.val - 2) % 3, Nat.mod_lt _ (by decide)⟩)) else none

theorem kind_x (j : Fin 4) (s : Fin 3) : kind (.dma (xsem j s)) = some (some (j, s)) := by revert j s; decide
theorem kind_bar : kind (.reg barS) = some none := rfl
theorem kind_csem (k : CK) : kind (csem k) = some k := by
  rcases k with _ | ⟨j, s⟩
  · rfl
  · exact kind_x j s
theorem csem_injective : Function.Injective csem := fun a b h => by
  have := congrArg kind h; rw [kind_csem, kind_csem] at this; exact Option.some.inj this
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units a tile's transfer pays, and a scale's. -/
def Nq : ℕ := (rtileS 0).view.dmaCredit
def Ns : ℕ := (rscaleS 0).view.dmaCredit
theorem Nq_pos : 0 < Nq := View.dmaCredit_pos _ (by decide)
theorem Ns_pos : 0 < Ns := View.dmaCredit_pos _ (by decide)
/-- The units of one duty of a cell. -/
def units : CK → ℕ
  | none => 1
  | some (j, _) => if j.val < 2 then Nq else Ns
theorem units_pos (k : CK) : 0 < units k := by
  rcases k with _ | ⟨j, s⟩
  · exact Nat.one_pos
  · show 0 < if j.val < 2 then Nq else Ns
    split
    · exact Nq_pos
    · exact Ns_pos

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s columns of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Its tile of rows for `peer c s`; -/
def xtile (c : Dev nD) (s : Fin 3) : Vec F S512x512 .f32 := xM.view.readAt (Elt F) (rowsR c s).toLoadRect (xstg m ρ c)
/-- quantised; -/
def qtile (c : Dev nD) (s : Fin 3) : IVec S512x512 8 := k0_pay9 (xtile m ρ c s)
/-- and its scale. -/
def qscale (c : Dev nD) (s : Fin 3) : F .f32 := Scalar.divf (k0_pay7 (xtile m ρ c s)) (Scalar.ofBits .f32 0x42FE0000#32)

/-! ## The schedule -/

/-- What `peer c s` lends `c` by its signal: its slot `s` of both receive buffers, at any contents. -/
def barPay (c : Dev nD) (s : Fin 3) : sProp 𝕄 :=
  iprop((∃ Y, ownsTc (peer c s) (rtileS s) fullShare Y) ∗ ∃ Y, ownsTc (peer c s) (rscaleS s) fullShare Y)
/-- What a transfer's cell hands over: on the sender its source back, on the receiver the slot with what was sent. -/
def xferPay (c : Dev nD) (s : Fin 3) : Fin 4 → sProp 𝕄
  | 0 => ownsTc c (tileS c s) fullShare (qtile m ρ c s)
  | 1 => ownsTc c (rtileS s) fullShare (qtile m ρ (back c s) s)
  | 2 => ownsTc c (scaleS s) fullShare (fun _ => qscale m ρ c s)
  | 3 => ownsTc c (rscaleS s) fullShare (fun _ => qscale m ρ (back c s) s)
def payOf (c : Dev nD) (d : Fin 3) : CK → sProp 𝕄
  | none => barPay c d
  | some (j, s) => xferPay m ρ c s j

instance barPay_storable (c : Dev nD) (s : Fin 3) : BI.Storable (upEmb : UEmb _ 𝕄) (barPay (F := F) c s) := by unfold barPay; infer_instance
instance xferPay_storable (c : Dev nD) (s : Fin 3) (j : Fin 4) : BI.Storable (upEmb : UEmb _ 𝕄) (xferPay (F := F) m ρ c s j) := by
  unfold xferPay; split <;> infer_instance
instance payOf_storable (c : Dev nD) (d : Fin 3) (k : CK) : BI.Storable (upEmb : UEmb _ 𝕄) (payOf (F := F) m ρ c d k) := by
  unfold payOf; split <;> infer_instance

/-- One round: a barrier cell has three duties, a transfer's cell one. -/
def ringRd : Rounds.Schedule (GSem nD τ sig) (Fin 3) 𝕄 where
  duties g r := if r = 0 ∧ g.1.2 = .tc then
      (match kind g.2 with | some none => Finset.univ | some (some _) => {0} | none => ∅) else ∅
  unitless _ := False
  amount g _ _ := match kind g.2 with | some k => units k | none => 1
  payload g _ d := match kind g.2 with | some k => payOf m ρ g.1.1 d k | none => iprop(emp)
  amount_pos g _ _ _ := by
    split
    · exact units_pos _
    · exact Nat.one_pos

instance ringRd_payload_storable (g : GSem nD τ sig) (r : ℕ) (d : Fin 3) :
    BI.Storable (upEmb : UEmb _ 𝕄) ((ringRd (F := F) m ρ).payload g r d) := by
  show BI.Storable upEmb (match kind g.2 with | some k => payOf m ρ g.1.1 d k | none => iprop(emp))
  split <;> infer_instance

section Sched
variable (c : Dev nD) (j : Fin 4) (s : Fin 3)

theorem duties_bar : (ringRd (F := F) m ρ).duties (barCell c) 0 = Finset.univ := by
  dsimp only [ringRd]; rw [if_pos ⟨rfl, rfl⟩]; rfl
theorem duties_x : (ringRd (F := F) m ρ).duties (xcell c j s) 0 = {0} := by
  dsimp only [ringRd]; rw [if_pos ⟨rfl, rfl⟩, kind_x]
theorem duties_later (g : GSem nD τ sig) : ∀ r, 1 ≤ r → (ringRd (F := F) m ρ).duties g r = ∅ :=
  fun r hr => by dsimp only [ringRd]; rw [if_neg fun h => by omega]

theorem amount_bar (d : Fin 3) : (ringRd (F := F) m ρ).amount (barCell c) 0 d = 1 := rfl
theorem amount_x (d : Fin 3) : (ringRd (F := F) m ρ).amount (xcell c j s) 0 d = units (some (j, s)) := by
  dsimp only [ringRd]; rw [kind_x]

theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x : (ringRd (F := F) m ρ).expect (xcell c j s) 0 = units (some (j, s)) := by
  unfold Schedule.expect Schedule.amountOf; rw [duties_x, Finset.sum_singleton, amount_x]

theorem payload_bar (d : Fin 3) : (ringRd (F := F) m ρ).payload (barCell c) 0 d = barPay c d := rfl
theorem payload_x (d : Fin 3) : (ringRd (F := F) m ρ).payload (xcell c j s) 0 d = xferPay m ρ c s j := by
  dsimp only [ringRd]; rw [kind_x]; rfl

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((ringRd (F := F) m ρ).duties (barCell c) 0 \ ∅) (fun d => (ringRd (F := F) m ρ).payload (barCell c) 0 d)
    = iprop(barPay c 0 ∗ barPay c 1 ∗ barPay c 2) := by
  rw [Finset.sdiff_empty, duties_bar, bigSep_fin3]; rfl
theorem rest_x : bigSep ((ringRd (F := F) m ρ).duties (xcell c j s) 0 \ ∅) (fun d => (ringRd (F := F) m ρ).payload (xcell c j s) 0 d)
    = xferPay m ρ c s j := by
  rw [Finset.sdiff_empty, duties_x, bigSep_singleton, payload_x]

end Sched

/-! ## What each device owes at launch; the levels -/

/-- The debts left before each paying operation, the last first: the tile and the scale of slots 1, 2, 0, then the three signals. -/
def P1 (c : Dev nD) : CellTallies nD τ sig Unit := tallyAt (xcell (peer c 1) 1 1) () Nq
def P2 (c : Dev nD) : CellTallies nD τ sig Unit := P1 c + tallyAt (xcell (peer c 1) 3 1) () Ns
def P3 (c : Dev nD) : CellTallies nD τ sig Unit := P2 c + tallyAt (xcell (peer c 2) 1 2) () Nq
def P4 (c : Dev nD) : CellTallies nD τ sig Unit := P3 c + tallyAt (xcell (peer c 2) 3 2) () Ns
def P5 (c : Dev nD) : CellTallies nD τ sig Unit := P4 c + tallyAt (xcell (peer c 0) 1 0) () Nq
def P6 (c : Dev nD) : CellTallies nD τ sig Unit := P5 c + tallyAt (xcell (peer c 0) 3 0) () Ns
def P7 (c : Dev nD) : CellTallies nD τ sig Unit := P6 c + tallyAt (barCell (back c 0)) () 1
def P8 (c : Dev nD) : CellTallies nD τ sig Unit := P7 c + tallyAt (barCell (back c 1)) () 1
def O₀ (c : Dev nD) : CellTallies nD τ sig Unit := P8 c + tallyAt (barCell (back c 2)) () 1

def L (g : GSem nD τ sig) : Finset Unit := if g.1.2 = .tc then {()} else ∅
/-- Barrier cells at 1, the receive cells at 2, everything else at 0. -/
def lv (g : GSem nD τ sig) (_ : Unit) : ℕ := match kind g.2 with
  | some none => 1
  | some (some (j, _)) => if j = 1 ∨ j = 3 then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_q (c : Dev nD) (s : Fin 3) (u : Unit) : lv (xcell c 1 s) u = 2 := by unfold lv; rw [kind_x]; rfl
theorem lv_s (c : Dev nD) (s : Fin 3) (u : Unit) : lv (xcell c 3 s) u = 2 := by unfold lv; rw [kind_x]; rfl

/-- A receive cell of some device. -/
def IsRecv (g : GSem nD τ sig) : Prop := ∃ d s, g = xcell d 1 s ∨ g = xcell d 3 s

theorem tally_pos {g g' : GSem nD τ sig} {u : Unit} {n : ℕ} {O : CellTallies nD τ sig Unit}
    (h : 0 < (O + tallyAt g' () n) g u) : 0 < O g u ∨ g = g' := by
  rw [Pi.add_apply, Finsupp.add_apply, tallyAt_apply] at h
  by_cases hg : g = g' ∧ u = ()
  · exact .inr hg.1
  · rw [if_neg hg] at h; exact .inl h

theorem P6_pos {c : Dev nD} {g : GSem nD τ sig} {u : Unit} (h : 0 < P6 c g u) : IsRecv g := by
  rcases tally_pos h with h | rfl
  · rcases tally_pos h with h | rfl
    · rcases tally_pos h with h | rfl
      · rcases tally_pos h with h | rfl
        · rcases tally_pos h with h | rfl
          · unfold P1 at h
            rw [tallyAt_apply] at h
            by_cases hg : g = xcell (peer c 1) 1 1 ∧ u = ()
            · exact ⟨_, _, .inl hg.1⟩
            · rw [if_neg hg] at h; exact absurd h (Nat.lt_irrefl 0)
          · exact ⟨_, _, .inr rfl⟩
        · exact ⟨_, _, .inl rfl⟩
      · exact ⟨_, _, .inr rfl⟩
    · exact ⟨_, _, .inl rfl⟩
  · exact ⟨_, _, .inr rfl⟩

theorem O₀_pos {c : Dev nD} {g : GSem nD τ sig} {u : Unit} (h : 0 < O₀ c g u) : IsRecv g ∨ ∃ d, g = barCell d := by
  rcases tally_pos h with h | rfl
  · rcases tally_pos h with h | rfl
    · rcases tally_pos h with h | rfl
      · exact .inl (P6_pos h)
      · exact .inr ⟨_, rfl⟩
    · exact .inr ⟨_, rfl⟩
  · exact .inr ⟨_, rfl⟩

theorem isRecv_L {g : GSem nD τ sig} (h : IsRecv g) (u : Unit) : u ∈ L g := by
  obtain ⟨d, s, rfl | rfl⟩ := h <;> exact Finset.mem_singleton_self _
theorem isRecv_lv {g : GSem nD τ sig} (h : IsRecv g) (u : Unit) : lv g u = 2 := by
  obtain ⟨d, s, rfl | rfl⟩ := h
  · exact lv_q d s u
  · exact lv_s d s u

theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with h | ⟨d, rfl⟩
        · exact isRecv_L h u
        · exact Finset.mem_singleton_self _)
      (fun p hp => by rw [Finset.mem_singleton.mp hp]; unfold lv; rw [hq])
      (fun g u hg => by
        rcases O₀_pos hg with h | ⟨d, rfl⟩
        · rw [isRecv_lv h]; decide
        · rw [lv_bar]; decide)
  · rw [MayWait_zero]; iintro -; iempintro

/-- At its barrier wait a device owes receive cells only, which lie above its barrier cell. -/
theorem mayWait_bar (c : Dev nD) : (levAts L lv : sProp 𝕄) ⊢ MayWait (c : Thread nD τ) (.reg barS) () (P6 c) :=
  MayOwe.of_cut (L := L) (lev := lv) 1 (fun p hp => by rw [Finset.mem_singleton.mp hp, L_tc]; exact Finset.mem_singleton_self _)
    (fun g u hg => isRecv_L (P6_pos hg) u)
    (fun p hp => by rw [Finset.mem_singleton.mp hp]; exact (lv_bar c _).le)
    (fun g u hg => by rw [isRecv_lv (P6_pos hg)]; decide)

/-! ## The persistent records -/

abbrev 𝒱₀ : Variants := Variants.none

/-- Every cell's invariant, under the names the launch allocated them at, and that every cell is at its first round. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (ringRd m ρ) (K ck) (kcell ck) := by
  unfold records; exact sep_elim_left.trans (bigSep_elim (Finset.mem_univ ck))
theorem reached_at (K : Dev nD × CK → ℕ) (ck : Dev nD × CK) : records m ρ K ⊢ reached ER (kcell ck) 0 := by
  unfold records; exact sep_elim_right.trans (bigSep_elim (Finset.mem_univ ck))

end Cert.Exchange

end
-- ==== Proof.Rules.lean ====
/-
Rules for one operation at a time, in terms of "the memref is owned at these contents": loads and stores through a
rectangle that is owned as a slice, a local copy, the exchange's signals, transfers and waits.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A squeezed slice against the slice -/

section Squeeze
variable (c : Dev nD) {sp : Space} {s s' : Shape} {e : EltTy} (M : Memref sig .tc sp s e) (h : s.Squeezes s') (q : PosShare TreeShare)

theorem owns_squeeze (X : s.Idx → Elt F e) :
    (ownsTc c M q X : sProp 𝕄) ⊢ ownsTc c (M.squeeze s' h) q (fun i => X (Shape.reshapeEquiv h.numel_eq i)) := by
  unfold ownsTc owns
  iintro ⟨%f, %hf, H⟩
  iexists f
  isplitr
  · ipureintro; subst hf; rfl
  · rw [show (M.squeeze s' h).view.set = M.view.set from View.set_reshape _ _]; iexact H

theorem owns_unsqueeze (Y : s'.Idx → Elt F e) :
    (ownsTc c (M.squeeze s' h) q Y : sProp 𝕄) ⊢ ownsTc c M q (fun i => Y ((Shape.reshapeEquiv h.numel_eq).symm i)) := by
  unfold ownsTc owns
  iintro ⟨%f, %hf, H⟩
  iexists f
  isplitr
  · ipureintro; subst hf; funext i
    show _ = M.view.read (Elt F) f (Shape.reshapeEquiv h.numel_eq ((Shape.reshapeEquiv h.numel_eq).symm i))
    rw [Equiv.apply_symm_apply]
  · rw [show (M.squeeze s' h).view.set = M.view.set from View.set_reshape _ _]; iexact H

theorem owns_squeeze_any : (iprop(∃ X, ownsTc c M q X) : sProp 𝕄) ⊢ iprop(∃ Y, ownsTc c (M.squeeze s' h) q Y) := by
  iintro ⟨%X, H⟩
  iexists _
  iapply (owns_squeeze c M h q X) $$ H
theorem owns_unsqueeze_any : (iprop(∃ Y, ownsTc c (M.squeeze s' h) q Y) : sProp 𝕄) ⊢ iprop(∃ X, ownsTc c M q X) := by
  iintro ⟨%X, H⟩
  iexists _
  iapply (owns_unsqueeze c M h q X) $$ H

end Squeeze

/-- A slice named by equal offsets is the same slice. -/
theorem owns_slice_congr (c : Dev nD) {sp : Space} {s : Shape} {e : EltTy} (M : Memref sig .tc sp s e) (q : PosShare TreeShare)
    (sz o o' : Fin s.rank → ℕ) (ho : o = o') (h : ∀ a, o a + sz a ≤ s.size a) (h' : ∀ a, o' a + sz a ≤ s.size a)
    (X : (⟨s.rank, sz⟩ : Shape).Idx → Elt F e) :
    (ownsTc c (M.slice (Rect.unit o sz h) (fun _ => rfl)) q X : sProp 𝕄) = ownsTc c (M.slice (Rect.unit o' sz h') (fun _ => rfl)) q X := by
  subst ho; rfl

/-! ## The program's operations -/

/-- The weakest precondition of a program on device `c`. -/
abbrev WP (c : Dev nD) {α : Type} (Q : α → sProp (MT nD τ sig Unit (Elt F) ℕ UU ℕ)) (p : Prog (TpuEff nD τ sig (Elt F) Λ₀ .tc) α) :
    sProp (MT nD τ sig Unit (Elt F) ℕ UU ℕ) :=
  wp frame (wpE (defs₀ (F := F)) 𝒱₀ (c : Thread nD τ) none) Set.univ p Q

section Ops
variable (c : Dev nD) {α : Type} {Q : α → sProp (MT nD τ sig Unit (Elt F) ℕ UU ℕ)}

/-- A load of a rectangle inside an owned slice. -/
theorem wp_load_sub {cs : CoreSpace} {s : Shape} {e : EltTy} (M : Memref sig .tc cs s e) (r r' : Rect s) (hr : ∀ a, r.stride a = 1)
    (φ : r'.shape.Idx → r.shape.Idx) (hφ : ∀ j, r.emb (φ j) = r'.emb j) (q : PosShare TreeShare) (X : r.shape.Idx → Elt F e)
    {hl : M.view.LoadsAt r'.toLoadRect} {k : (r'.shape.Idx → Elt F e) → Prog (TpuEff nD τ sig (Elt F) Λ₀ .tc) α} :
    (ownsTc c (M.slice r hr) q X : sProp 𝕄)
      ⊢ iprop((ownsTc c (M.slice r hr) q X -∗ WP c Q (k (fun j => X (φ j)))) -∗ WP c Q (.op (.load M r'.toLoadRect hl) k)) := by
  unfold ownsTc owns
  iintro ⟨%f, %hf, H⟩ Hk
  iapply (wp_load_rect 𝒱₀ (c : Thread nD τ) none Set.univ (m := M) (r := r') (S := (M.slice r hr).view.set) (by
      show (M.view.slice r').set ⊆ (M.view.slice r).set
      rw [View.set_slice, View.set_slice]
      refine Finset.map_subset_map.mpr fun x hx => ?_
      rw [← Rect.map_emb_univ, Finset.mem_map] at hx
      obtain ⟨j, -, rfl⟩ := hx
      rw [← hφ j, ← Rect.map_emb_univ]
      exact Finset.mem_map_of_mem _ (Finset.mem_univ _))) $$ H
  iintro H
  rw [show (M.access r').read (Elt F) f = fun j => X (φ j) from funext fun j => by
    subst hf
    show M.view.read (Elt F) f (r'.emb j) = M.view.read (Elt F) f (r.emb (φ j))
    rw [hφ]]
  iapply Hk
  iexists f
  isplitr; · ipureintro; exact hf
  iexact H

/-- A load of an owned slice. -/
theorem wp_load_slice {cs : CoreSpace} {s : Shape} {e : EltTy} (M : Memref sig .tc cs s e) (r : Rect s) (hr : ∀ a, r.stride a = 1)
    (q : PosShare TreeShare) (X : r.shape.Idx → Elt F e)
    {hl : M.view.LoadsAt r.toLoadRect} {k : (r.shape.Idx → Elt F e) → Prog (TpuEff nD τ sig (Elt F) Λ₀ .tc) α} :
    (ownsTc c (M.slice r hr) q X : sProp 𝕄)
      ⊢ iprop((ownsTc c (M.slice r hr) q X -∗ WP c Q (k X)) -∗ WP c Q (.op (.load M r.toLoadRect hl) k)) :=
  wp_load_sub c M r r hr id (fun _ => rfl) q X

/-- A store of an owned slice. -/
theorem wp_store_slice {cs : CoreSpace} {s : Shape} {e : EltTy} (M : Memref sig .tc cs s e) (r : Rect s) (hr : ∀ a, r.stride a = 1)
    (w : r.shape.Idx → Elt F e) {hx : (M.access r).Stores Finset.univ} {hm : (Finset.univ : Finset r.shape.Idx) = Finset.univ ∨ ∀ a, r.stride a = 1}
    {k : PUnit → Prog (TpuEff nD τ sig (Elt F) Λ₀ .tc) α} :
    (iprop(∃ X, ownsTc c (M.slice r hr) fullShare X) : sProp 𝕄)
      ⊢ iprop((ownsTc c (M.slice r hr) fullShare w -∗ WP c Q (k ⟨⟩)) -∗ WP c Q (.op (.store M r w Finset.univ hx hm) k)) := by
  unfold ownsTc owns
  iintro ⟨%X, %f, %hf, H⟩ Hk
  iapply (wp_store 𝒱₀ (c : Thread nD τ) none Set.univ (m := M) (r := r) (Mk := Finset.univ) (S := (M.slice r hr).view.set) (by
      rw [View.setOn_univ])) $$ H
  iintro H
  iapply Hk
  iexists ((M.access r).write (Elt F) f w Finset.univ)
  isplitr
  · ipureintro; exact View.read_write_univ (v := M.access r) f w
  · iexact H

/-- A local copy into an owned memref, from a source held at a share. -/
theorem wp_copy {sp sp' : Space} {s : Shape} {e : EltTy} (src : Memref sig .tc sp s e) (dst : Memref sig .tc sp' s e) (sm : DmaSem sig)
    (q : PosShare TreeShare) (fs : Buf (Elt F) (src.view.loc (c : Thread nD τ)))
    {hsrc : src.view.WordExact} {hdst : dst.view.WordExact} {hsem : DmaTarget.Typed sp (.dma sm) (DmaTarget.here (nD := nD) (τ := τ) (p := .tc) dst)}
    {k : PUnit → Prog (TpuEff nD τ sig (Elt F) Λ₀ .tc) α} (hN0 : 0 < dst.view.dmaCredit) :
    iprop((src.view.loc (c : Thread nD τ) ↦[src.view.set]{q} fs) ∗ (∃ Y, ownsTc c dst fullShare Y) ∗ semVal ((c : Thread nD τ), .dma sm) 0)
      ⊢ iprop((Transfers.Flight EC (c : Thread nD τ) (.dma sm) () dst.view.dmaCredit
            iprop(ownsTc c dst fullShare (src.view.read (Elt F) fs) ∗ (src.view.loc (c : Thread nD τ) ↦[src.view.set]{q} fs))
          -∗ WP c Q (k ⟨⟩)) -∗ WP c Q (.op (.enqueueDma src (.here dst) (.dma sm) hsrc hdst hsem) k)) := by
  iintro ⟨Hs, ⟨%Y, Hd⟩, Hv⟩ Hk
  ihave Hd' := (show ownsTc c dst fullShare Y ⊢ iprop(∃ f, ⌜dst.view.read (Elt F) f = Y⌝ ∗ (dst.view.loc (c : Thread nD τ) ↦[dst.view.set]{fullShare} f)) from .rfl) $$ Hd
  icases Hd' with ⟨%fd, -, Hd⟩
  iapply (Transfers.wp_dmaLocal EC 𝒱₀ (c : Thread nD τ) none (src := src) (dst := dst) (via := .same) (fs := fs) (fd := fd) () dst.view.dmaCredit rfl hN0
    (Finset.Subset.refl _)) $$ [Hs Hd Hv]
  · isplitl [Hs]; · iexact Hs
    isplitl [Hd]; · iexact Hd
    iexact Hv
  iintro HF
  iapply Hk
  iapply (Transfers.Flight_mono EC (c : Thread nD τ) (D := iprop((dst.view.loc (c : Thread nD τ) ↦[dst.view.set]{fullShare} (dst.view.write (Elt F) fd (src.view.read (Elt F) fs) Finset.univ))
      ∗ (src.view.loc (c : Thread nD τ) ↦[src.view.set]{q} fs))) (by
    iintro ⟨Hd, Hs⟩
    isplitl [Hd]
    · unfold ownsTc owns
      iexists (dst.view.write (Elt F) fd (src.view.read (Elt F) fs) Finset.univ)
      isplitr
      · ipureintro; exact View.read_write_univ fd _
      · iexact Hd
    · iexact Hs)) $$ HF

/-- What the core owes, with whatever waits it has made. -/
def OW (O : CellTallies nD τ sig Unit) : sProp 𝕄 := iprop(∃ W, owes (c : Thread nD τ) O W)

/-- The wait for a local copy, with nothing owed. -/
theorem wp_copied {sp sp' : Space} {s s' : Shape} {e e' : EltTy} (srcw : Memref sig .tc sp' s' e') (dstw : Memref sig .tc sp s e) (sm : DmaSem sig)
    {D : sProp 𝕄} {N : ℕ} (hN : dstw.view.dmaCredit = N)
    {hsrc : srcw.view.WordExact} {hdst : dstw.view.WordExact} {k : PUnit → Prog (TpuEff nD τ sig (Elt F) Λ₀ .tc) α} :
    iprop(Transfers.Flight EC (c : Thread nD τ) (.dma sm) () N D ∗ OW c 0)
      ⊢ iprop((iprop(D ∗ semVal ((c : Thread nD τ), .dma sm) 0 ∗ OW c 0) -∗ WP c Q (k ⟨⟩)) -∗ WP c Q (.op (.waitDma2 sm srcw dstw hsrc hdst) k)) := by
  unfold OW
  iintro ⟨HF, ⟨%W, HO⟩⟩ Hk
  iapply (Transfers.wp_waitLocalO EC 𝒱₀ (c : Thread nD τ) none (O := 0) (W := W) () hN) $$ [HF HO]
  · isplitl [HF]; · iexact HF
    isplitl [HO]; · iexact HO
    rw [MayWait_zero]; iempintro
  iintro ⟨HD, Hv, HO⟩
  iapply Hk
  isplitl [HD]; · iexact HD
  isplitl [Hv]; · iexact Hv
  iexists _; iexact HO

/-! ## The exchange's operations -/

variable (m : (ℓ : Loc nD τ sig) → Buf (Elt F) ℓ) (ρ : Dev nD → PrngReg) (K : Dev nD × CK → ℕ)

theorem amount_pays {sp : Space} {s : Shape} {e : EltTy} (dst : Memref sig .tc sp s e) (sm : DmaSem sig) : dst.view.amount (.dma sm) = dst.view.dmaCredit := rfl

/-- The signal to `back c s`'s barrier: it lends slot `s` of both receive buffers. -/
theorem wp_lend (s : Fin 3) (n : Dev nD) (hn : n = back c s) (O : CellTallies nD τ sig Unit)
    {k : PUnit → Prog (TpuEff nD τ sig (Elt F) Λ₀ .tc) α} :
    iprop(records m ρ K ∗ OW c (O + tallyAt (barCell (back c s)) () 1) ∗ dutyTok ER (barCell (back c s)) 0 s
        ∗ (∃ Y, ownsTc c (rtileS s) fullShare Y) ∗ (∃ Y, ownsTc c (rscaleS s) fullShare Y))
      ⊢ iprop((OW c O -∗ WP c Q (k ⟨⟩)) -∗ WP c Q (.op (.semSignal (Dev.tc n : Thread nD τ) barS 1) k)) := by
  subst hn
  unfold OW
  iintro ⟨#HR, ⟨%W, HO⟩, Ht, Hq, Hs⟩ Hk
  iapply (Rounds.wp_signal 𝒱₀ ER (ringRd m ρ) (c : Thread nD τ) none (dst := (back c s : Thread nD τ)) (κ := K (back c s, none))
      (d := s) (by rw [duties_bar]; exact Finset.mem_univ _) ((amount_bar m ρ (back c s) s).trans (by decide)) () O rfl)
    $$ [HO Ht Hq Hs]
  · isplitr; · iapply (inv_at m ρ K (back c s, none)) $$ HR
    isplitl [HO]; · iexact HO
    isplitl [Ht]; · iexact Ht
    isplitl [Hq Hs]
    · rw [payload_bar]; unfold barPay; rw [peer_back]
      isplitl [Hq]; · iexact Hq
      iexact Hs
    · iapply (reached_at m ρ K (back c s, none)) $$ HR
  iintro HO
  iapply Hk
  iexists W; iexact HO

/-- The wait on the own barrier: the slots lent by the three peers. -/
theorem wp_lent {k : PUnit → Prog (TpuEff nD τ sig (Elt F) Λ₀ .tc) α} :
    iprop(records m ρ K ∗ levAts L lv ∗ OW c (P6 c) ∗ cred (tallyAt (barCell c) () 3) ∗ atPos ER (barCell c) 0 ∅ 0)
      ⊢ iprop((iprop(OW c (P6 c) ∗ semVal (barCell c) 0 ∗ barPay c 0 ∗ barPay c 1 ∗ barPay c 2) -∗ WP c Q (k ⟨⟩))
        -∗ WP c Q (.op (.semWait barS 3) k)) := by
  unfold OW
  iintro ⟨#HR, #Hlev, ⟨%W, HO⟩, Hc, Hat⟩ Hk
  ihave #HI := (inv_at m ρ K (c, none)) $$ HR
  iapply (Rounds.wp_wait_rest_token 𝒱₀ ER (ringRd m ρ) (c : Thread nD τ) none (κ := K (c, none))
      (wpE_semWait_eq 𝒱₀ (c : Thread nD τ) none Set.univ) (Set.mem_univ _) () (O := P6 c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- A transfer to `peer c s`, over any of the two pairs of buffers and cells (`j`, `j + 1`). -/
theorem wp_send {sp sp' : Space} {sh : Shape} {e : EltTy} (s : Fin 3) (j j' : Fin 4) (n : Dev nD) (hn : n = peer c s)
    (src : Memref sig .tc sp sh e) (dst : Memref sig .tc sp' sh e) (X : sh.Idx → Elt F e) (N : ℕ)
    (hN : dst.view.dmaCredit = N) (hj : units (some (j, s)) = N) (hj' : units (some (j', s)) = N)
    (hpay : xferPay m ρ c s j = ownsTc c src fullShare X) (hpay' : xferPay m ρ (peer c s) s j' = ownsTc (peer c s) dst fullShare X)
    (O : CellTallies nD τ sig Unit)
    {hsc : (dst : Memref sig (Dev.tc n : Thread nD τ).2.kind sp' sh e).view.ref.isScScratch = false}
    {hsrc : src.view.WordExact} {hdst : dst.view.WordExact}
    {hsem : DmaTarget.Typed sp (.dma (xsem j' s)) (.remote (Dev.tc n : Thread nD τ) dst (.dma (xsem j s)) hsc)}
    {k : PUnit → Prog (TpuEff nD τ sig (Elt F) Λ₀ .tc) α} :
    iprop(records m ρ K ∗ ownsTc c src fullShare X ∗ (∃ Y, ownsTc (peer c s) dst fullShare Y)
        ∗ OW c (O + tallyAt (xcell (peer c s) j' s) () N) ∗ dutyTok ER (xcell c j s) 0 0 ∗ dutyTok ER (xcell (peer c s) j' s) 0 0)
      ⊢ iprop((iprop(cred (tallyAt (xcell c j s) () N) ∗ OW c O) -∗ WP c Q (k ⟨⟩))
        -∗ WP c Q (.op (.enqueueDma src (.remote (Dev.tc n : Thread nD τ) dst (.dma (xsem j s)) hsc) (.dma (xsem j' s)) hsrc hdst hsem) k)) := by
  subst hn
  unfold OW
  iintro ⟨#HR, Hs, ⟨%Y, Hd⟩, ⟨%W, HO⟩, Ht, Ht'⟩ Hk
  ihave Hs' := (show ownsTc c src fullShare X ⊢ iprop(∃ f, ⌜src.view.read (Elt F) f = X⌝ ∗ (src.view.loc (c : Thread nD τ) ↦[src.view.set]{fullShare} f)) from .rfl) $$ Hs
  icases Hs' with ⟨%fs, %hfs, Hs⟩
  ihave Hd' := (show ownsTc (peer c s) dst fullShare Y
    ⊢ iprop(∃ f, ⌜dst.view.read (Elt F) f = Y⌝ ∗ (dst.view.loc (peer c s : Thread nD τ) ↦[dst.view.set]{fullShare} f)) from .rfl) $$ Hd
  icases Hd' with ⟨%fd, -, Hd⟩
  iapply (Rounds.wp_send_pointsTo 𝒱₀ ER (ringRd m ρ) (c : Thread nD τ) none (κ₁ := K (c, some (j, s))) (κ₂ := K (peer c s, some (j', s)))
    (r₁ := 0) (r₂ := 0) (d₁ := 0) (d₂ := 0) (fs := fs) (fd := fd)
    (by rw [duties_x]; exact Finset.mem_singleton_self _) (by rw [duties_x]; exact Finset.mem_singleton_self _)
    () () N (show dst.view.amount (.dma (xsem j' s)) = N from hN) ((amount_x m ρ c j s 0).trans hj) ((amount_x m ρ (peer c s) j' s 0).trans hj') O rfl (W := W)
    (by
      rw [payload_x, hpay]; unfold ownsTc owns
      iintro H; iexists fs
      isplitr; · ipureintro; exact hfs
      iexact H)
    (by
      rw [payload_x, hpay']; unfold ownsTc owns
      iintro H; iexists (dst.view.write (Elt F) fd (src.view.read (Elt F) fs) Finset.univ)
      isplitr; · ipureintro; exact (View.read_write_univ fd _).trans hfs
      iexact H)) $$ [Hs Hd HO Ht Ht']
  · isplitr; · iapply (inv_at m ρ K (c, some (j, s))) $$ HR
    isplitr; · iapply (inv_at m ρ K (peer c s, some (j', s))) $$ HR
    isplitl [Hs]; · iexact Hs
    isplitl [Hd]; · iexact Hd
    isplitl [HO]; · iexact HO
    isplitl [Ht]; · iexact Ht
    isplitr; · iapply (reached_at m ρ K (c, some (j, s))) $$ HR
    isplitl [Ht']; · iexact Ht'
    iapply (reached_at m ρ K (peer c s, some (j', s))) $$ HR
  iintro ⟨Hc, HO⟩
  iapply Hk
  isplitl [Hc]; · iexact Hc
  iexists W; iexact HO

/-- A wait on one of the transfers' cells, with nothing owed: what it hands over, and the counter at zero. -/
theorem wp_got {sp sp' : Space} {sh sh' : Shape} {e e' : EltTy} (j : Fin 4) (s : Fin 3) (srcw : Memref sig .tc sp' sh' e') (dstw : Memref sig .tc sp sh e)
    (N : ℕ) (hN : dstw.view.dmaCredit = N) (hj : units (some (j, s)) = N)
    {hsrc : srcw.view.WordExact} {hdst : dstw.view.WordExact} {k : PUnit → Prog (TpuEff nD τ sig (Elt F) Λ₀ .tc) α} :
    iprop(records m ρ K ∗ OW c 0 ∗ cred (tallyAt (xcell c j s) () N) ∗ atPos ER (xcell c j s) 0 ∅ 0)
      ⊢ iprop((iprop(OW c 0 ∗ semVal (xcell c j s) 0 ∗ xferPay m ρ c s j) -∗ WP c Q (k ⟨⟩))
        -∗ WP c Q (.op (.waitDma2 (xsem j s) srcw dstw hsrc hdst) k)) := by
  subst hN
  unfold OW
  iintro ⟨#HR, ⟨%W, HO⟩, Hc, Hat⟩ Hk
  ihave #HI := (inv_at m ρ K (c, some (j, s))) $$ HR
  iapply (Rounds.wp_wait_rest_token 𝒱₀ ER (ringRd m ρ) (c : Thread nD τ) none (κ := K (c, some (j, s)))
      (wpE_waitDma2_eq 𝒱₀ (c : Thread nD τ) none Set.univ) (Set.mem_univ _) () (O := 0) (W := W) (R := 0) (m := 0) (T := ∅)
      (by rw [Nat.zero_add, expect_x, hj])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_x m ρ c j s)) $$ Hpay
  imod (Rounds.cell_close ER (ringRd m ρ) (Set.mem_univ (K (c, some (j, s)))) (fun h => h) (R := 0 + 1) (duties_later m ρ (xcell c j s))) $$ [Hat] with Hz
  · isplitr; · iexact HI
    iexact Hat
  iapply Hk
  isplitl [HO]; · iexists _; iexact HO
  isplitl [Hz]; · iexact Hz
  iexact Hp

end Ops

end Cert.Exchange

end
-- ==== Proof.Pieces.lean ====
/-
The scratch buffers cut into the pieces the program moves: the quantised copy of `x` into four tiles of rows, the
buffers of three slots into their slots, the buffer of rows of `w` into two slots and the two halves of the third, the
output window into two halves. Each is cut by a disjoint covering family of rectangles, and glued back the same way.
-/
module

public import proofs.«01_k».proof.Proof.Rules
public import Idealize.ShloMosaic.Lib.MemrefSat

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A memref owned at some contents. -/
abbrev anyTc (c : Dev nD) {sp : Space} {s : Shape} {e : EltTy} (M : Memref sig .tc sp s e) : sProp 𝕄 := iprop(∃ X, ownsTc c M fullShare X)

theorem any_intro (c : Dev nD) {sp : Space} {s : Shape} {e : EltTy} (M : Memref sig .tc sp s e) (X : s.Idx → Elt F e) : (ownsTc c M fullShare X : sProp 𝕄) ⊢ anyTc c M := by
  iintro H; iexists X; iexact H

section Any
variable (c : Dev nD) {sp : Space} {sh : Shape} {e : EltTy} (M : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

theorem any_cut : (anyTc c M : sProp 𝕄) ⊢ BI.bigSep Finset.univ fun t => anyTc c (M.slice (r t) (hr t)) := by
  iintro ⟨%X, H⟩
  iapply (show (ownsTc c M fullShare X : sProp 𝕄) ⊢ BI.bigSep Finset.univ fun t => anyTc c (M.slice (r t) (hr t)) from
    (owns_rects (c : Thread nD τ) M fullShare r hr hd hcov X).trans (BI.bigSep_mono fun t _ => any_intro c _ _))
  iexact H

theorem any_glue [∀ e, Nonempty (Elt F e)] : (BI.bigSep Finset.univ fun t => anyTc c (M.slice (r t) (hr t))) ⊢ (anyTc c M : sProp 𝕄) :=
  (BI.bigSep_mono fun t _ => (ownsSat_true (c : Thread nD τ) (M.slice (r t) (hr t)) fullShare).2).trans
    ((ownsSat_of_rects (c : Thread nD τ) M fullShare r hr hd hcov (fun _ _ => True)).trans (ownsSat_any (c : Thread nD τ) M fullShare))
end Any

/-- A buffer held whole at some contents, and its memref owned at some contents. -/
theorem any_of_pts (c : Dev nD) (b : Ref sig .tc) : (iprop(∃ f : Buf (Elt F) ((c : Thread nD τ).loc b), ((c : Thread nD τ).loc b) ↦{fullShare} f) : sProp 𝕄) ⊢ anyTc c (Memref.whole b) := by
  iintro ⟨%f, H⟩
  iexists f
  unfold ownsTc owns
  iexists f
  simp only [Memref.view_whole, View.read_whole, View.set_whole]
  isplitr; · ipureintro; trivial
  iexact H
theorem pts_of_any (c : Dev nD) (b : Ref sig .tc) : (anyTc c (Memref.whole b) : sProp 𝕄) ⊢ iprop(∃ f : Buf (Elt F) ((c : Thread nD τ).loc b), ((c : Thread nD τ).loc b) ↦{fullShare} f) := by
  unfold anyTc ownsTc owns
  simp only [Memref.view_whole, View.read_whole, View.set_whole]
  iintro ⟨%X, %f, -, H⟩
  iexists f
  iexact H

/-! ## The families -/

/-- The rows of the own tile, and of the tiles for the three peers. -/
def rowsF (c : Dev nD) : Option (Fin 3) → Rect S2048x512
  | none => Rect.unit (s := S2048x512) (k0_off6 c) S512x512.size (k0_off6_inb c)
  | some s => rowsR c s

theorem rowsF_off (c : Dev nD) (t : Option (Fin 3)) : ∃ b : Fin 4, (rowsF c t).off = ![512 * b.val, 0] ∧ (rowsF c t).size = S512x512.size ∧ (∀ a, (rowsF c t).stride a = 1)
    ∧ b.val = (match t with | none => c.val | some s => (c.val + s.val + 1) % 4) := by
  rcases t with _ | s
  · exact ⟨c, k0_off6_eq c, rfl, fun _ => rfl, rfl⟩
  · exact ⟨⟨(c.val + s.val + 1) % 4, Nat.mod_lt _ (by decide)⟩, k0_off4_eq c s, rfl, fun _ => rfl, rfl⟩

theorem rowsF_stride (c : Dev nD) (t : Option (Fin 3)) (a : Fin 2) : (rowsF c t).stride a = 1 := by rcases t with _ | s <;> rfl

theorem mem_rowsF (c : Dev nD) (t : Option (Fin 3)) (i : S2048x512.Idx) :
    i ∈ (rowsF c t).set ↔ (i 0 : ℕ) / 512 = (match t with | none => c.val | some s => (c.val + s.val + 1) % 4) := by
  have h1 : ∀ (o : Fin 2 → ℕ) (b : ℕ) (ho : o = ![512 * b, 0]) (hi : ∀ a, o a + S512x512.size a ≤ S2048x512.size a),
      i ∈ (Rect.unit (s := S2048x512) o S512x512.size hi).set ↔ (i 0 : ℕ) / 512 = b := by
    intro o b ho hi
    subst ho
    rw [Rect.mem_set_unit]
    have h0 := (i 0).isLt
    have h1 : (i 1 : ℕ) < 512 := (i 1).isLt
    constructor
    · intro h
      have := h 0
      simp only [Matrix.cons_val_zero, show S512x512.size 0 = 512 from rfl] at this
      omega
    · intro h a
      fin_cases a
      · show 512 * b ≤ (i 0 : ℕ) ∧ (i 0 : ℕ) < 512 * b + 512
        omega
      · show 0 ≤ (i 1 : ℕ) ∧ (i 1 : ℕ) < 0 + 512
        omega
  rcases t with _ | s
  · exact h1 _ _ (k0_off6_eq c) (k0_off6_inb c)
  · exact h1 _ _ (k0_off4_eq c s) (k0_off4_inb c s)

theorem rowsF_disj (c : Dev nD) (t t' : Option (Fin 3)) (h : t ≠ t') : Disjoint (rowsF c t).set (rowsF c t').set := by
  refine Finset.disjoint_left.mpr fun i hi hi' => h ?_
  rw [mem_rowsF] at hi hi'
  have := hi.symm.trans hi'
  revert this
  clear hi hi' h
  revert c t t'
  decide

theorem rowsF_cover (c : Dev nD) : (Finset.univ : Finset (Option (Fin 3))).biUnion (fun t => (rowsF c t).set) = Finset.univ := by
  refine Finset.eq_univ_iff_forall.mpr fun i => Finset.mem_biUnion.mpr ?_
  have hb : (i 0 : ℕ) / 512 < 4 := by
    have : (i 0 : ℕ) < 2048 := (i 0).isLt
    omega
  have key : ∀ (c : Dev nD) (b : Fin 4), ∃ t : Option (Fin 3), b.val = (match t with | none => c.val | some s => (c.val + s.val + 1) % 4) := by decide
  obtain ⟨t, ht⟩ := key c ⟨_, hb⟩
  exact ⟨t, Finset.mem_univ _, (mem_rowsF c t i).mpr ht⟩

theorem scaleR_disj (t t' : Fin 3) (h : t ≠ t') : Disjoint (scaleR t).set (scaleR t').set :=
  Rect.unit_disjoint (0 : Fin 3) (by
    show t.val + 1 ≤ t'.val ∨ t'.val + 1 ≤ t.val
    have : t.val ≠ t'.val := fun e => h (Fin.ext e)
    omega)
theorem rtileR_disj (t t' : Fin 3) (h : t ≠ t') : Disjoint (rtileR t).set (rtileR t').set :=
  Rect.unit_disjoint (0 : Fin 3) (by
    show t.val + 1 ≤ t'.val ∨ t'.val + 1 ≤ t.val
    have : t.val ≠ t'.val := fun e => h (Fin.ext e)
    omega)

theorem scaleR_cover : (Finset.univ : Finset (Fin 3)).biUnion (fun t => (scaleR t).set) = Finset.univ := by
  refine Finset.eq_univ_iff_forall.mpr fun i => Finset.mem_biUnion.mpr ⟨i 0, Finset.mem_univ _, Rect.mem_set_unit.mpr fun a => ?_⟩
  have h := (i a).isLt
  fin_cases a
  · show (i 0 : ℕ) ≤ (i 0 : ℕ) ∧ (i 0 : ℕ) < (i 0 : ℕ) + 1
    omega
  · exact ⟨Nat.zero_le _, by show (i 1 : ℕ) < 0 + 8; have : (i 1 : ℕ) < 8 := h; omega⟩
  · exact ⟨Nat.zero_le _, by show (i 2 : ℕ) < 0 + 128; have : (i 2 : ℕ) < 128 := h; omega⟩
theorem rtileR_cover : (Finset.univ : Finset (Fin 3)).biUnion (fun t => (rtileR t).set) = Finset.univ := by
  refine Finset.eq_univ_iff_forall.mpr fun i => Finset.mem_biUnion.mpr ⟨i 0, Finset.mem_univ _, Rect.mem_set_unit.mpr fun a => ?_⟩
  have h := (i a).isLt
  fin_cases a
  · show (i 0 : ℕ) ≤ (i 0 : ℕ) ∧ (i 0 : ℕ) < (i 0 : ℕ) + 1
    omega
  · exact ⟨Nat.zero_le _, by show (i 1 : ℕ) < 0 + 512; have : (i 1 : ℕ) < 512 := h; omega⟩
  · exact ⟨Nat.zero_le _, by show (i 2 : ℕ) < 0 + 512; have : (i 2 : ℕ) < 512 := h; omega⟩

/-- The halves of slot 0 of the rows of `w`. -/
abbrev whalfR0 : Rect S3x512x2048 := Rect.unit (s := S3x512x2048) ![0, 0, 0] S1x512x1024.size inb_S3x512x2048_S1x512x1024_0_0_0
abbrev whalfR1 : Rect S3x512x2048 := Rect.unit (s := S3x512x2048) ![0, 0, 1024] S1x512x1024.size inb_S3x512x2048_S1x512x1024_0_0_1024

/-- The two halves of slot 0, slot 1, slot 2. -/
def wpieceR : Fin 4 → Rect S3x512x2048
  | 0 => whalfR0
  | 1 => whalfR1
  | 2 => wslotR 1
  | 3 => wslotR 2
theorem wpieceR_stride (t : Fin 4) (a : Fin 3) : (wpieceR t).stride a = 1 := by fin_cases t <;> rfl

theorem wpieceR_disj (t t' : Fin 4) (h : t ≠ t') : Disjoint (wpieceR t).set (wpieceR t').set := by
  have h01 : Disjoint whalfR0.set whalfR1.set := Rect.unit_disjoint (2 : Fin 3) (.inl (by decide))
  have h02 : Disjoint whalfR0.set (wslotR 1).set := Rect.unit_disjoint (0 : Fin 3) (.inl (by decide))
  have h03 : Disjoint whalfR0.set (wslotR 2).set := Rect.unit_disjoint (0 : Fin 3) (.inl (by decide))
  have h12 : Disjoint whalfR1.set (wslotR 1).set := Rect.unit_disjoint (0 : Fin 3) (.inl (by decide))
  have h13 : Disjoint whalfR1.set (wslotR 2).set := Rect.unit_disjoint (0 : Fin 3) (.inl (by decide))
  have h23 : Disjoint (wslotR 1).set (wslotR 2).set := Rect.unit_disjoint (0 : Fin 3) (.inl (by decide))
  match t, t', h with
  | 0, 0, h => exact absurd rfl h
  | 0, 1, h => exact h01
  | 0, 2, h => exact h02
  | 0, 3, h => exact h03
  | 1, 0, h => exact h01.symm
  | 1, 1, h => exact absurd rfl h
  | 1, 2, h => exact h12
  | 1, 3, h => exact h13
  | 2, 0, h => exact h02.symm
  | 2, 1, h => exact h12.symm
  | 2, 2, h => exact absurd rfl h
  | 2, 3, h => exact h23
  | 3, 0, h => exact h03.symm
  | 3, 1, h => exact h13.symm
  | 3, 2, h => exact h23.symm
  | 3, 3, h => exact absurd rfl h

theorem wpieceR_cover : (Finset.univ : Finset (Fin 4)).biUnion (fun t => (wpieceR t).set) = Finset.univ := by
  refine Finset.eq_univ_iff_forall.mpr fun i => Finset.mem_biUnion.mpr ?_
  have h0 : (i 0 : ℕ) < 3 := (i 0).isLt
  have h1 : (i 1 : ℕ) < 512 := (i 1).isLt
  have h2 : (i 2 : ℕ) < 2048 := (i 2).isLt
  have key (o sz : Fin 3 → ℕ) (hi) (ha : ∀ a : Fin 3, o a ≤ (i a : ℕ) ∧ (i a : ℕ) < o a + sz a) :
      i ∈ (Rect.unit (s := S3x512x2048) o sz hi).set := Rect.mem_set_unit.mpr ha
  by_cases e0 : (i 0 : ℕ) = 0
  · by_cases e2 : (i 2 : ℕ) < 1024
    · refine ⟨0, Finset.mem_univ _, key _ _ inb_S3x512x2048_S1x512x1024_0_0_0 fun a => ?_⟩
      fin_cases a
      · show 0 ≤ (i 0 : ℕ) ∧ (i 0 : ℕ) < 0 + 1; omega
      · show 0 ≤ (i 1 : ℕ) ∧ (i 1 : ℕ) < 0 + 512; omega
      · show 0 ≤ (i 2 : ℕ) ∧ (i 2 : ℕ) < 0 + 1024; omega
    · refine ⟨1, Finset.mem_univ _, key _ _ inb_S3x512x2048_S1x512x1024_0_0_1024 fun a => ?_⟩
      fin_cases a
      · show 0 ≤ (i 0 : ℕ) ∧ (i 0 : ℕ) < 0 + 1; omega
      · show 0 ≤ (i 1 : ℕ) ∧ (i 1 : ℕ) < 0 + 512; omega
      · show 1024 ≤ (i 2 : ℕ) ∧ (i 2 : ℕ) < 1024 + 1024; omega
  · by_cases e1 : (i 0 : ℕ) = 1
    · refine ⟨2, Finset.mem_univ _, key _ _ (slot_w_inb 1) fun a => ?_⟩
      fin_cases a
      · show 1 ≤ (i 0 : ℕ) ∧ (i 0 : ℕ) < 1 + 1; omega
      · show 0 ≤ (i 1 : ℕ) ∧ (i 1 : ℕ) < 0 + 512; omega
      · show 0 ≤ (i 2 : ℕ) ∧ (i 2 : ℕ) < 0 + 2048; omega
    · refine ⟨3, Finset.mem_univ _, key _ _ (slot_w_inb 2) fun a => ?_⟩
      fin_cases a
      · show 2 ≤ (i 0 : ℕ) ∧ (i 0 : ℕ) < 2 + 1; omega
      · show 0 ≤ (i 1 : ℕ) ∧ (i 1 : ℕ) < 0 + 512; omega
      · show 0 ≤ (i 2 : ℕ) ∧ (i 2 : ℕ) < 0 + 2048; omega

theorem wslotR_disj (t t' : Fin 3) (h : t ≠ t') : Disjoint (wslotR t).set (wslotR t').set :=
  Rect.unit_disjoint (0 : Fin 3) (by
    show t.val + 1 ≤ t'.val ∨ t'.val + 1 ≤ t.val
    have : t.val ≠ t'.val := fun e => h (Fin.ext e)
    omega)
theorem wslotR_cover : (Finset.univ : Finset (Fin 3)).biUnion (fun t => (wslotR t).set) = Finset.univ := by
  refine Finset.eq_univ_iff_forall.mpr fun i => Finset.mem_biUnion.mpr ⟨i 0, Finset.mem_univ _, Rect.mem_set_unit.mpr fun a => ?_⟩
  have h := (i a).isLt
  fin_cases a
  · show (i 0 : ℕ) ≤ (i 0 : ℕ) ∧ (i 0 : ℕ) < (i 0 : ℕ) + 1
    omega
  · exact ⟨Nat.zero_le _, by show (i 1 : ℕ) < 0 + 512; have : (i 1 : ℕ) < 512 := h; omega⟩
  · exact ⟨Nat.zero_le _, by show (i 2 : ℕ) < 0 + 2048; have : (i 2 : ℕ) < 2048 := h; omega⟩

/-- The two halves of the output window. -/
abbrev ohalfR0 : Rect S512x2048 := Rect.unit (s := S512x2048) ![0, 0] S512x1024.size inb_S512x2048_S512x1024_0_0
abbrev ohalfR1 : Rect S512x2048 := Rect.unit (s := S512x2048) ![0, 1024] S512x1024.size inb_S512x2048_S512x1024_0_1024
def ohalfR : Fin 2 → Rect S512x2048
  | 0 => ohalfR0
  | 1 => ohalfR1
theorem ohalfR_stride (t : Fin 2) (a : Fin 2) : (ohalfR t).stride a = 1 := by fin_cases t <;> rfl
theorem ohalfR_disj (t t' : Fin 2) (h : t ≠ t') : Disjoint (ohalfR t).set (ohalfR t').set := by
  have h01 : Disjoint ohalfR0.set ohalfR1.set := Rect.unit_disjoint (1 : Fin 2) (.inl (by decide))
  match t, t', h with
  | 0, 0, h => exact absurd rfl h
  | 0, 1, h => exact h01
  | 1, 0, h => exact h01.symm
  | 1, 1, h => exact absurd rfl h
theorem ohalfR_cover : (Finset.univ : Finset (Fin 2)).biUnion (fun t => (ohalfR t).set) = Finset.univ := by
  refine Finset.eq_univ_iff_forall.mpr fun i => Finset.mem_biUnion.mpr ?_
  have h0 : (i 0 : ℕ) < 512 := (i 0).isLt
  have h1 : (i 1 : ℕ) < 2048 := (i 1).isLt
  have key (o sz : Fin 2 → ℕ) (hi) (ha : ∀ a : Fin 2, o a ≤ (i a : ℕ) ∧ (i a : ℕ) < o a + sz a) :
      i ∈ (Rect.unit (s := S512x2048) o sz hi).set := Rect.mem_set_unit.mpr ha
  by_cases e : (i 1 : ℕ) < 1024
  · refine ⟨0, Finset.mem_univ _, key _ _ inb_S512x2048_S512x1024_0_0 fun a => ?_⟩
    fin_cases a
    · show 0 ≤ (i 0 : ℕ) ∧ (i 0 : ℕ) < 0 + 512; omega
    · show 0 ≤ (i 1 : ℕ) ∧ (i 1 : ℕ) < 0 + 1024; omega
  · refine ⟨1, Finset.mem_univ _, key _ _ inb_S512x2048_S512x1024_0_1024 fun a => ?_⟩
    fin_cases a
    · show 0 ≤ (i 0 : ℕ) ∧ (i 0 : ℕ) < 0 + 512; omega
    · show 1024 ≤ (i 1 : ℕ) ∧ (i 1 : ℕ) < 1024 + 1024; omega

/-! ## The cuts -/

instance elt_nonempty (e : EltTy) : Nonempty (Elt F e) := by
  cases e <;> first | exact ⟨(0 : BitVec _)⟩ | exact ⟨Scalar.ofBits _ 0⟩ | infer_instance

/-- A half of slot 0, and a slot, of the rows of `w`, squeezed: the copies' destinations. -/
abbrev whalfS0 : Memref sig .tc .vmem S512x1024 .f32 := (wbufM.slice whalfR0 (fun _ => rfl)).squeeze S512x1024 squeezes_S1x512x1024_S512x1024
abbrev whalfS1 : Memref sig .tc .vmem S512x1024 .f32 := (wbufM.slice whalfR1 (fun _ => rfl)).squeeze S512x1024 squeezes_S1x512x1024_S512x1024
abbrev wslotS (s : Fin 3) : Memref sig .tc .vmem S512x2048 .f32 := (wbufM.slice (wslotR s) (fun _ => rfl)).squeeze S512x2048 squeezes_S1x512x2048_S512x2048
/-- The own tile's rows of the quantised copy (never written). -/
abbrev ownS (c : Dev nD) : Memref sig .tc .vmem S512x512 .i8 :=
  tileM.slice (Rect.unit (s := S2048x512) (k0_off6 c) S512x512.size (k0_off6_inb c)) (fun _ => rfl)

theorem bigSep_opt3 (Φ : Option (Fin 3) → sProp 𝕄) : bigSep Finset.univ Φ = iprop(Φ none ∗ Φ (some 0) ∗ Φ (some 1) ∗ Φ (some 2)) :=
  bigSep_univ_eq_bigSepL [none, some 0, some 1, some 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin2 (Φ : Fin 2 → sProp 𝕄) : bigSep Finset.univ Φ = iprop(Φ 0 ∗ Φ 1) :=
  bigSep_univ_eq_bigSepL [0, 1] (by decide) (by decide) Φ

theorem tile_cut (c : Dev nD) : (anyTc c tileM : sProp 𝕄) ⊢ iprop(anyTc c (ownS c) ∗ anyTc c (tileS c 0) ∗ anyTc c (tileS c 1) ∗ anyTc c (tileS c 2)) := by
  refine (any_cut c tileM (rowsF c) (rowsF_stride c) (rowsF_disj c) (rowsF_cover c)).trans ?_
  rw [bigSep_opt3]; exact BIBase.Entails.refl
theorem tile_glue (c : Dev nD) : iprop(anyTc c (ownS c) ∗ anyTc c (tileS c 0) ∗ anyTc c (tileS c 1) ∗ anyTc c (tileS c 2)) ⊢ (anyTc c tileM : sProp 𝕄) := by
  refine BIBase.Entails.trans ?_ (any_glue c tileM (rowsF c) (rowsF_stride c) (rowsF_disj c) (rowsF_cover c))
  rw [bigSep_opt3]; exact BIBase.Entails.refl

theorem scale_cut (c : Dev nD) : (anyTc c scaleM : sProp 𝕄)
    ⊢ iprop(anyTc c (scaleM.slice (scaleR 0) (fun _ => rfl)) ∗ anyTc c (scaleM.slice (scaleR 1) (fun _ => rfl)) ∗ anyTc c (scaleM.slice (scaleR 2) (fun _ => rfl))) := by
  refine (any_cut c scaleM scaleR (fun _ _ => rfl) scaleR_disj scaleR_cover).trans ?_
  rw [bigSep_fin3]
theorem scale_glue (c : Dev nD) : iprop(anyTc c (scaleS 0) ∗ anyTc c (scaleS 1) ∗ anyTc c (scaleS 2)) ⊢ (anyTc c scaleM : sProp 𝕄) := by
  refine BIBase.Entails.trans ?_ ((BI.bigSep_mono fun t _ => owns_unsqueeze_any c (scaleM.slice (scaleR t) (fun _ => rfl)) squeezes_S1x8x128_S8x128 fullShare).trans
    (any_glue c scaleM scaleR (fun _ _ => rfl) scaleR_disj scaleR_cover))
  rw [bigSep_fin3]

theorem rscale_cut (c : Dev nD) : (anyTc c rscaleM : sProp 𝕄) ⊢ iprop(anyTc c (rscaleS 0) ∗ anyTc c (rscaleS 1) ∗ anyTc c (rscaleS 2)) := by
  refine (any_cut c rscaleM scaleR (fun _ _ => rfl) scaleR_disj scaleR_cover).trans
    ((BI.bigSep_mono fun t _ => owns_squeeze_any c (rscaleM.slice (scaleR t) (fun _ => rfl)) squeezes_S1x8x128_S8x128 fullShare).trans ?_)
  rw [bigSep_fin3]; exact BI.Entails.refl _
theorem rscale_glue (c : Dev nD) : iprop(anyTc c (rscaleM.slice (scaleR 0) (fun _ => rfl)) ∗ anyTc c (rscaleM.slice (scaleR 1) (fun _ => rfl)) ∗ anyTc c (rscaleM.slice (scaleR 2) (fun _ => rfl)))
    ⊢ (anyTc c rscaleM : sProp 𝕄) := by
  refine BIBase.Entails.trans ?_ (any_glue c rscaleM scaleR (fun _ _ => rfl) scaleR_disj scaleR_cover)
  rw [bigSep_fin3]

theorem rtile_cut (c : Dev nD) : (anyTc c rtileM : sProp 𝕄) ⊢ iprop(anyTc c (rtileS 0) ∗ anyTc c (rtileS 1) ∗ anyTc c (rtileS 2)) := by
  refine (any_cut c rtileM rtileR (fun _ _ => rfl) rtileR_disj rtileR_cover).trans
    ((BI.bigSep_mono fun t _ => owns_squeeze_any c (rtileM.slice (rtileR t) (fun _ => rfl)) squeezes_S1x512x512_S512x512 fullShare).trans ?_)
  rw [bigSep_fin3]; exact BI.Entails.refl _
theorem rtile_glue (c : Dev nD) : iprop(anyTc c (rtileM.slice (rtileR 0) (fun _ => rfl)) ∗ anyTc c (rtileM.slice (rtileR 1) (fun _ => rfl)) ∗ anyTc c (rtileM.slice (rtileR 2) (fun _ => rfl)))
    ⊢ (anyTc c rtileM : sProp 𝕄) := by
  refine BIBase.Entails.trans ?_ (any_glue c rtileM rtileR (fun _ _ => rfl) rtileR_disj rtileR_cover)
  rw [bigSep_fin3]

/-- The buffer of rows of `w` into the two halves of slot 0 and the slots 1 and 2. -/
theorem wbuf_cut (c : Dev nD) : (anyTc c wbufM : sProp 𝕄) ⊢ iprop(anyTc c whalfS0 ∗ anyTc c whalfS1 ∗ anyTc c (wslotS 1) ∗ anyTc c (wslotS 2)) := by
  refine (any_cut c wbufM wpieceR wpieceR_stride wpieceR_disj wpieceR_cover).trans ?_
  rw [bigSep_fin4]
  show iprop(anyTc c (wbufM.slice whalfR0 (fun _ => rfl)) ∗ anyTc c (wbufM.slice whalfR1 (fun _ => rfl)) ∗ anyTc c (wbufM.slice (wslotR 1) (fun _ => rfl))
    ∗ anyTc c (wbufM.slice (wslotR 2) (fun _ => rfl))) ⊢ _
  iintro ⟨H0, H1, H2, H3⟩
  isplitl [H0]; · iapply (owns_squeeze_any c (wbufM.slice whalfR0 (fun _ => rfl)) squeezes_S1x512x1024_S512x1024 fullShare) $$ H0
  isplitl [H1]; · iapply (owns_squeeze_any c (wbufM.slice whalfR1 (fun _ => rfl)) squeezes_S1x512x1024_S512x1024 fullShare) $$ H1
  isplitl [H2]; · iapply (owns_squeeze_any c (wbufM.slice (wslotR 1) (fun _ => rfl)) squeezes_S1x512x2048_S512x2048 fullShare) $$ H2
  iapply (owns_squeeze_any c (wbufM.slice (wslotR 2) (fun _ => rfl)) squeezes_S1x512x2048_S512x2048 fullShare) $$ H3

theorem wbuf_glue (c : Dev nD) : iprop(anyTc c (wbufM.slice (wslotR 0) (fun _ => rfl)) ∗ anyTc c (wbufM.slice (wslotR 1) (fun _ => rfl)) ∗ anyTc c (wbufM.slice (wslotR 2) (fun _ => rfl)))
    ⊢ (anyTc c wbufM : sProp 𝕄) := by
  refine BIBase.Entails.trans ?_ (any_glue c wbufM wslotR (fun _ _ => rfl) wslotR_disj wslotR_cover)
  rw [bigSep_fin3]

theorem whalf_union : whalfR0.set ∪ whalfR1.set = (wslotR 0).set := by
  ext i
  rw [Finset.mem_union, Rect.mem_set_unit, Rect.mem_set_unit, Rect.mem_set_unit]
  have h2 : (i 2 : ℕ) < 2048 := (i 2).isLt
  constructor
  · rintro (h | h) a
    · have := h a; revert this
      fin_cases a
      · exact fun h => h
      · exact fun h => h
      · show (0 ≤ (i 2 : ℕ) ∧ (i 2 : ℕ) < 0 + 1024) → (0 ≤ (i 2 : ℕ) ∧ (i 2 : ℕ) < 0 + 2048); omega
    · have := h a; revert this
      fin_cases a
      · exact fun h => h
      · exact fun h => h
      · show (1024 ≤ (i 2 : ℕ) ∧ (i 2 : ℕ) < 1024 + 1024) → (0 ≤ (i 2 : ℕ) ∧ (i 2 : ℕ) < 0 + 2048); omega
  · intro h
    by_cases e : (i 2 : ℕ) < 1024
    · refine .inl fun a => ?_
      have := h a; revert this
      fin_cases a
      · exact fun h => h
      · exact fun h => h
      · show (0 ≤ (i 2 : ℕ) ∧ (i 2 : ℕ) < 0 + 2048) → (0 ≤ (i 2 : ℕ) ∧ (i 2 : ℕ) < 0 + 1024); omega
    · refine .inr fun a => ?_
      have := h a; revert this
      fin_cases a
      · exact fun h => h
      · exact fun h => h
      · show (0 ≤ (i 2 : ℕ) ∧ (i 2 : ℕ) < 0 + 2048) → (1024 ≤ (i 2 : ℕ) ∧ (i 2 : ℕ) < 1024 + 1024); omega

/-- The halves of slot 0 make slot 0. -/
theorem whalf_glue (c : Dev nD) : iprop(anyTc c (wbufM.slice whalfR0 (fun _ => rfl)) ∗ anyTc c (wbufM.slice whalfR1 (fun _ => rfl))) ⊢ (anyTc c (wslotS 0) : sProp 𝕄) := by
  refine BIBase.Entails.trans ?_ (owns_squeeze_any c (wbufM.slice (wslotR 0) (fun _ => rfl)) squeezes_S1x512x2048_S512x2048 fullShare)
  iintro ⟨H0, H1⟩
  unfold anyTc ownsTc owns
  icases H0 with ⟨%X0, %f0, -, H0⟩
  icases H1 with ⟨%X1, %f1, -, H1⟩
  have hd : Disjoint (wbufM.view.slice whalfR0).set (wbufM.view.slice whalfR1).set := by
    rw [View.set_slice, View.set_slice]; exact (Finset.disjoint_map _).mpr (wpieceR_disj 0 1 (by decide))
  have hu : (wbufM.view.slice whalfR0).set ∪ (wbufM.view.slice whalfR1).set = (wbufM.view.slice (wslotR 0)).set := by
    rw [View.set_slice, View.set_slice, View.set_slice, ← Finset.map_union]
    exact congrArg _ whalf_union
  ihave H := (pointsTo_join (ℓ := wbufM.view.loc (c : Thread nD τ)) hd) $$ [H0 H1]
  · isplitl [H0]; · iexact H0
    iexact H1
  rw [hu]
  iexists (View.read (Elt F) (wbufM.slice (wslotR 0) (fun _ => rfl)).view ((wbufM.view.slice whalfR1).set.piecewise f1 f0)), ((wbufM.view.slice whalfR1).set.piecewise f1 f0)
  isplitr; · ipureintro; rfl
  iexact H

theorem out_cut (c : Dev nD) : (anyTc c oM : sProp 𝕄) ⊢ iprop(anyTc c (oM.slice ohalfR0 (fun _ => rfl)) ∗ anyTc c (oM.slice ohalfR1 (fun _ => rfl))) := by
  refine (any_cut c oM ohalfR ohalfR_stride ohalfR_disj ohalfR_cover).trans ?_
  rw [bigSep_fin2]; exact BIBase.Entails.refl
theorem out_glue (c : Dev nD) (X : S512x2048.Idx → Elt F .f32) (Y0 Y1 : S512x1024.Idx → Elt F .f32) (h0 : ∀ j, X (ohalfR0.emb j) = Y0 j) (h1 : ∀ j, X (ohalfR1.emb j) = Y1 j) :
    iprop(ownsTc c (oM.slice ohalfR0 (fun _ => rfl)) fullShare Y0 ∗ ownsTc c (oM.slice ohalfR1 (fun _ => rfl)) fullShare Y1) ⊢ (ownsTc c oM fullShare X : sProp 𝕄) := by
  refine BI.Entails.trans ?_ (owns_of_rects (c : Thread nD τ) oM fullShare ohalfR ohalfR_stride ohalfR_disj ohalfR_cover X)
  rw [bigSep_fin2, ← show (fun j => X (ohalfR0.emb j)) = Y0 from funext h0, ← show (fun j => X (ohalfR1.emb j)) = Y1 from funext h1]
  exact BI.Entails.refl _

end Cert.Exchange

end
-- ==== Proof.Contents.lean ====
/-
What each buffer holds, and the copies of rows of `w`.

`w` sits in one array per device, the same for all its copies; each of the five copies reads it under its own read
share. The two halves of the own rows go to the halves of slot 0; the rows of the device `s + 1` places before, used
with the tile received in slot `s`, go to slots 1 (`s = 0`), 2 (`s = 2`) and, in a second use, 0 (`s = 1`).
-/
module

public import proofs.«01_k».proof.Proof.Pieces

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s array of `w`. -/
abbrev wbuf (c : Dev nD) : Buf (Elt F) ((c : Thread nD τ).loc main_arg1) := m ((c : Thread nD τ).loc main_arg1)

/-- The rows of `w` that the own tile of columns of `x` meets, in two halves; those that slot `2 - r`'s tile meets. -/
abbrev wR1 (c : Dev nD) : Rect S2048x2048 := Rect.unit (s := S2048x2048) (k0_off1 c) S512x1024.size (k0_off1_inb c)
abbrev wR2 (c : Dev nD) : Rect S2048x2048 := Rect.unit (s := S2048x2048) (k0_off2 c) S512x1024.size (k0_off2_inb c)
abbrev wR3 (c : Dev nD) (r : Fin 3) : Rect S2048x2048 :=
  Rect.unit (s := S2048x2048) (k0_off3 c (BitVec.ofNat 32 (1 + r.val))) S512x2048.size (k0_off3_inb c r)

/-- A source of a copy of rows of `w`. -/
abbrev wSrc (r : Rect S2048x2048) (hr : ∀ a, r.stride a = 1) : Memref sig .tc .hbm r.shape .f32 := wM.slice r hr

/-- What a buffer of a squeezed shape holds, read at the shape it was squeezed from. -/
def unsq {s s' : Shape} {V : Type} (h : s.Squeezes s') (X : s'.Idx → V) : s.Idx → V := fun i => X ((Shape.reshapeEquiv h.numel_eq).symm i)

def wA (c : Dev nD) : Vec F S1x512x1024 .f32 := unsq squeezes_S1x512x1024_S512x1024 ((wSrc (wR1 c) (fun _ => rfl)).view.read (Elt F) (wbuf m c))
def wB (c : Dev nD) : Vec F S1x512x1024 .f32 := unsq squeezes_S1x512x1024_S512x1024 ((wSrc (wR2 c) (fun _ => rfl)).view.read (Elt F) (wbuf m c))
def wsl (c : Dev nD) (r : Fin 3) : Vec F S1x512x2048 .f32 := unsq squeezes_S1x512x2048_S512x2048 ((wSrc (wR3 c r) (fun _ => rfl)).view.read (Elt F) (wbuf m c))

/-- The halves of a slot. -/
def lo (j : S1x512x1024.Idx) : S1x512x2048.Idx := ix3 (j 0) (j 1) ⟨(j 2).val, lt_trans (j 2).isLt (by decide)⟩
def hi (j : S1x512x1024.Idx) : S1x512x2048.Idx := ix3 (j 0) (j 1) ⟨1024 + (j 2).val, by have : (j 2).val < 1024 := (j 2).isLt; omega⟩
def wlo (c : Dev nD) (r : Fin 3) : Vec F S1x512x1024 .f32 := fun j => wsl m c r (lo j)
def whi (c : Dev nD) (r : Fin 3) : Vec F S1x512x1024 .f32 := fun j => wsl m c r (hi j)

/-- The own tile of `x`; the tile and the scale received in slot `s`. -/
def xown (c : Dev nD) : Vec F S512x512 .f32 :=
  xM.view.readAt (Elt F) (Rect.unit (s := S2048x512) (k0_off6 c) S512x512.size (k0_off6_inb c)).toLoadRect (xstg m ρ c)
def rq (c : Dev nD) (s : Fin 3) : Vec F S1x512x512 .i8 := unsq squeezes_S1x512x512_S512x512 (qtile m ρ (back c s) s)
def rs (c : Dev nD) (s : Fin 3) : Vec F S1x1x1 .f32 := fun _ => qscale m ρ (back c s) s

/-- The two halves of the output as the four tiles are added. -/
def a0 (c : Dev nD) : FVec F S512x1024 .f32 := k0_pay16 (xown m ρ c) (wA m c)
def b0 (c : Dev nD) : FVec F S512x1024 .f32 := k0_pay17 (xown m ρ c) (wB m c)
def a1 (c : Dev nD) : FVec F S512x1024 .f32 := k0_pay19 (a0 m ρ c) (rq m ρ c 0) (rs m ρ c 0) (wlo m c 2)
def b1 (c : Dev nD) : FVec F S512x1024 .f32 := k0_pay20 (b0 m ρ c) (rq m ρ c 0) (rs m ρ c 0) (whi m c 2)
def a2 (c : Dev nD) : FVec F S512x1024 .f32 := k0_pay22 (a1 m ρ c) (rq m ρ c 2) (rs m ρ c 2) (wlo m c 0)
def b2 (c : Dev nD) : FVec F S512x1024 .f32 := k0_pay23 (b1 m ρ c) (k0_pay21 (rq m ρ c 2) (rs m ρ c 2)) (whi m c 0)
def outA (c : Dev nD) : FVec F S512x1024 .f32 := k0_pay25 (a2 m ρ c) (rq m ρ c 1) (rs m ρ c 1) (wlo m c 1)
def outB (c : Dev nD) : FVec F S512x1024 .f32 :=
  k0_pay29 (k0_pay26 (b2 m ρ c) (rq m ρ c 1) (rs m ρ c 1) (whi m c 1)) (k0_pay27 (b2 m ρ c) (rq m ρ c 1) (rs m ρ c 1) (whi m c 1)) (k0_pay28 (F := F))

/-- The output window after the body. -/
def outAt (c : Dev nD) : S512x2048.Idx → Elt F .f32 := fun i =>
  if h : (i 1 : ℕ) < 1024 then outA m ρ c (ix2 (i 0) ⟨i 1, h⟩)
  else outB m ρ c (ix2 (i 0) ⟨i 1 - 1024, by have : (i 1 : ℕ) < 2048 := (i 1).isLt; omega⟩)

theorem outAt_lo (c : Dev nD) (j : S512x1024.Idx) : outAt m ρ c (ohalfR0.emb j) = outA m ρ c j := by
  have h1 : ((ohalfR0.emb j 1 : Fin _) : ℕ) = (j 1 : ℕ) := by rw [Rect.emb_apply]; show 0 + 1 * (j 1 : ℕ) = _; omega
  have hlt : ((ohalfR0.emb j 1 : Fin _) : ℕ) < 1024 := by rw [h1]; exact (j 1).isLt
  unfold outAt
  rw [dif_pos hlt]
  congr 1
  funext a
  fin_cases a
  · refine Fin.ext ?_
    show ((ohalfR0.emb j 0 : Fin _) : ℕ) = (j 0 : ℕ)
    rw [Rect.emb_apply]; show 0 + 1 * (j 0 : ℕ) = _; omega
  · exact Fin.ext h1
theorem outAt_hi (c : Dev nD) (j : S512x1024.Idx) : outAt m ρ c (ohalfR1.emb j) = outB m ρ c j := by
  have h1 : ((ohalfR1.emb j 1 : Fin _) : ℕ) = 1024 + (j 1 : ℕ) := by rw [Rect.emb_apply]; show 1024 + 1 * (j 1 : ℕ) = _; omega
  have hlt : ¬ ((ohalfR1.emb j 1 : Fin _) : ℕ) < 1024 := by rw [h1]; omega
  unfold outAt
  rw [dif_neg hlt]
  congr 1
  funext a
  fin_cases a
  · refine Fin.ext ?_
    show ((ohalfR1.emb j 0 : Fin _) : ℕ) = (j 0 : ℕ)
    rw [Rect.emb_apply]; show 0 + 1 * (j 0 : ℕ) = _; omega
  · refine Fin.ext ?_
    show ((ohalfR1.emb j 1 : Fin _) : ℕ) - 1024 = (j 1 : ℕ)
    rw [h1]; omega

/-! ## The copies of rows of `w` -/

/-- The read share of copy `i`. -/
abbrev wtok (i : Fin 5) : PosShare TreeShare := Transfers.shareTok fullShare 5 i
/-- Device `c`'s `w`, under share `q`. -/
abbrev wpts (c : Dev nD) (q : PosShare TreeShare) : sProp 𝕄 := iprop(((c : Thread nD τ).loc main_arg1) ↦{q} wbuf m c)

section Copies
variable (c : Dev nD) {α : Type} {Q : α → sProp (MT nD τ sig Unit (Elt F) ℕ UU ℕ)}
  (r : Rect S2048x2048) (hr : ∀ a, r.stride a = 1)

/-- A copy of rows `r` of `w` into `dst` under way; the rest of the array under the copy's share. -/
def WFl (q : PosShare TreeShare) (sm : DmaSem sig) {sp : Space} (dst : Memref sig .tc sp r.shape .f32) : sProp 𝕄 :=
  iprop(Transfers.Flight EC (c : Thread nD τ) (.dma sm) () dst.view.dmaCredit
      iprop(ownsTc c dst fullShare ((wSrc r hr).view.read (Elt F) (wbuf m c)) ∗ ((wSrc r hr).view.loc (c : Thread nD τ) ↦[(wSrc r hr).view.set]{q} wbuf m c))
    ∗ (((c : Thread nD τ).loc main_arg1) ↦[Finset.univ \ (wSrc r hr).view.set]{q} wbuf m c))

theorem wp_wcopy (q : PosShare TreeShare) (sm : DmaSem sig) {sp : Space} (dst : Memref sig .tc sp r.shape .f32)
    {hsrc : (wSrc r hr).view.WordExact} {hdst : dst.view.WordExact}
    {hsem : DmaTarget.Typed .hbm (.dma sm) (DmaTarget.here (nD := nD) (τ := τ) (p := .tc) dst)}
    {k : PUnit → Prog (TpuEff nD τ sig (Elt F) Λ₀ .tc) α} (hN0 : 0 < dst.view.dmaCredit) :
    iprop(wpts m c q ∗ anyTc c dst ∗ semVal ((c : Thread nD τ), .dma sm) 0)
      ⊢ iprop((WFl m c r hr q sm dst -∗ WP c Q (k ⟨⟩)) -∗ WP c Q (.op (.enqueueDma (wSrc r hr) (.here dst) (.dma sm) hsrc hdst hsem) k)) := by
  iintro ⟨Hw, Hd, Hsem⟩ Hk
  ihave Hw := (pointsTo_split_subset (ℓ := (c : Thread nD τ).loc main_arg1) (Finset.subset_univ (wSrc r hr).view.set)).1 $$ Hw
  icases Hw with ⟨Hw, Hrest⟩
  iapply (wp_copy c (wSrc r hr) dst sm q (wbuf m c) hN0) $$ [Hw Hd Hsem]
  · iframe Hw Hd Hsem
  iintro HF
  iapply Hk
  unfold WFl
  iframe HF Hrest

theorem wp_wwait (q : PosShare TreeShare) (sm : DmaSem sig) {sp : Space} (dst : Memref sig .tc sp r.shape .f32)
    {sp' : Space} {s' : Shape} {e' : EltTy} (srcw : Memref sig .tc sp' s' e')
    {hsrc : srcw.view.WordExact} {hdst : dst.view.WordExact} {k : PUnit → Prog (TpuEff nD τ sig (Elt F) Λ₀ .tc) α} :
    iprop(WFl m c r hr q sm dst ∗ OW c 0)
      ⊢ iprop((iprop(ownsTc c dst fullShare ((wSrc r hr).view.read (Elt F) (wbuf m c)) ∗ wpts m c q ∗ semVal ((c : Thread nD τ), .dma sm) 0 ∗ OW c 0) -∗ WP c Q (k ⟨⟩))
        -∗ WP c Q (.op (.waitDma2 sm srcw dst hsrc hdst) k)) := by
  unfold WFl
  iintro ⟨⟨HF, Hrest⟩, HO⟩ Hk
  iapply (wp_copied c srcw dst sm rfl) $$ [HF HO]
  · isplitl [HF]; · iexact HF
    iexact HO
  iintro ⟨⟨Hd, Hw⟩, Hsem, HO⟩
  iapply Hk
  iframe Hd Hsem HO
  iapply (pointsTo_split_subset (ℓ := (c : Thread nD τ).loc main_arg1) (Finset.subset_univ (wSrc r hr).view.set)).2 $$ [Hw Hrest]
  iframe Hw Hrest

end Copies

end Cert.Exchange

end
-- ==== Proof.Parts.lean ====
/-
The body's first half, part by part: the signals, the copies of `w`, and per slot the quantised tile, its scale and
their two transfers. Each theorem takes only what its part touches.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- Device `c`'s word, and the word `a` places after it. -/
abbrev dword (c : Dev nD) : BitVec 32 := Scalar.remsi (Scalar.divsi (Dev.word c) 1#32) 4#32
abbrev dwordAdd (c : Dev nD) (a : BitVec 32) : BitVec 32 := Scalar.remsi (Scalar.addi (dword c) a) 4#32

/-- Device `c`'s columns of `x` in the window. -/
abbrev xpts (c : Dev nD) : sProp 𝕄 := iprop(((c : Thread nD τ).loc cc0_stg0_0) ↦{fullShare} xstg m ρ c)

theorem whalf0_pos : 0 < whalfS0.view.dmaCredit := View.dmaCredit_pos _ (by decide)
theorem whalf1_pos : 0 < whalfS1.view.dmaCredit := View.dmaCredit_pos _ (by decide)
theorem wslot_pos (s : Fin 3) : 0 < (wslotS s).view.dmaCredit := View.dmaCredit_pos _ (show 0 < S512x2048.numel by decide)

theorem wp_done (c : Dev nD) {α : Type} {Q : α → sProp (MT nD τ sig Unit (Elt F) ℕ UU ℕ)} (a : α) : Q a ⊢ WP c Q (Prog.ret a) := by
  unfold WP
  rw [wp_ret]
  iintro H
  imodintro
  iexact H

/-- The slot of the scales once stored, squeezed. -/
theorem scale_stored (c : Dev nD) (s : Fin 3) :
    (ownsTc c (scaleM.slice (scaleR s) (fun _ => rfl)) fullShare (k0_pay8 (xtile m ρ c s)) : sProp 𝕄) ⊢ ownsTc c (scaleS s) fullShare (fun _ => qscale m ρ c s) :=
  owns_squeeze c (scaleM.slice (scaleR s) (fun _ => rfl)) squeezes_S1x8x128_S8x128 fullShare _

theorem xferPay_q (c : Dev nD) (s : Fin 3) : xferPay m ρ (peer c s) s 1 = (ownsTc (peer c s) (rtileS s) fullShare (qtile m ρ c s) : sProp 𝕄) := by
  show (ownsTc (peer c s) (rtileS s) fullShare (qtile m ρ (back (peer c s) s) s) : sProp 𝕄) = _
  rw [back_peer]
theorem xferPay_s (c : Dev nD) (s : Fin 3) : xferPay m ρ (peer c s) s 3 = (ownsTc (peer c s) (rscaleS s) fullShare (fun _ => qscale m ρ c s) : sProp 𝕄) := by
  show (ownsTc (peer c s) (rscaleS s) fullShare (fun _ => qscale m ρ (back (peer c s) s) s) : sProp 𝕄) = _
  rw [back_peer]

theorem barPay_split (c : Dev nD) (s : Fin 3) :
    (barPay c s : sProp 𝕄) ⊢ iprop((∃ Y, ownsTc (peer c s) (rtileS s) fullShare Y) ∗ ∃ Y, ownsTc (peer c s) (rscaleS s) fullShare Y) := .rfl

section
variable (c : Dev nD)

/-- A load of the tile for `peer c s`. -/
theorem wp_load_x {α : Type} {Q : α → sProp (MT nD τ sig Unit (Elt F) ℕ UU ℕ)} (s : Fin 3) {hl : xM.view.LoadsAt (rowsR c s).toLoadRect}
    {k : ((rowsR c s).shape.Idx → Elt F .f32) → Prog (TpuEff nD τ sig (Elt F) Λ₀ .tc) α} :
    (xpts m ρ c : sProp 𝕄) ⊢ iprop((xpts m ρ c -∗ WP c Q (k (xtile m ρ c s))) -∗ WP c Q (.op (.load xM (rowsR c s).toLoadRect hl) k)) := by
  iintro Hx Hk
  iapply (wp_load 𝒱₀ (c : Thread nD τ) none Set.univ (m := xM) (S := Finset.univ) (Finset.subset_univ _)) $$ Hx
  iintro Hx
  iapply Hk $$ Hx

/-- The three signals and the first copy. -/
theorem part1_spec {Q : (Σ' (d0 : Dev nD) (v2 : BitVec 32), Sems sig S_) → sProp (MT nD τ sig Unit (Elt F) ℕ UU ℕ)} :
    iprop(records m ρ K ∗ OW c (O₀ c) ∗ dutyTok ER (barCell (back c 2)) 0 2 ∗ dutyTok ER (barCell (back c 1)) 0 1 ∗ dutyTok ER (barCell (back c 0)) 0 0
        ∗ anyTc c (rtileS 2) ∗ anyTc c (rscaleS 2) ∗ anyTc c (rtileS 1) ∗ anyTc c (rscaleS 1) ∗ anyTc c (rtileS 0) ∗ anyTc c (rscaleS 0)
        ∗ wpts m c (wtok 0) ∗ anyTc c whalfS0 ∗ semVal ((c : Thread nD τ), .dma (wsem 0)) 0)
      ⊢ iprop((iprop(OW c (P6 c) ∗ WFl m c (wR1 c) (fun _ => rfl) (wtok 0) (wsem 0) whalfS0) -∗ Q ⟨c, dword c, SemArray.scalar (sig.barrier 0 rfl)⟩)
        -∗ WP c Q (k0_part1 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9)) := by
  iintro ⟨#HR, HO, Ht2, Ht1, Ht0, Hq2, Hs2, Hq1, Hs1, Hq0, Hs0, Hw, Hd, Hsem⟩ Hk
  unfold WP
  rw [k0_part1_eq_skeleton]
  unfold k0_part1_skel
  simp only [semSignalWord, semWaitWord, Prog.lift, Prog.bind_op, Prog.bind_ret, Prog.pure_eq_ret, wp_deviceId]
  iapply (wp_lend c m ρ K 2 _ (dev1_eq c) (P8 c)) $$ [HO Ht2 Hq2 Hs2]
  · iframe HR Ht2 Hq2 Hs2
    iexact HO
  iintro HO
  iapply (wp_lend c m ρ K 1 _ (dev2_eq c) (P7 c)) $$ [HO Ht1 Hq1 Hs1]
  · iframe HR Ht1 Hq1 Hs1
    iexact HO
  iintro HO
  iapply (wp_lend c m ρ K 0 _ (dev3_eq c) (P6 c)) $$ [HO Ht0 Hq0 Hs0]
  · iframe HR Ht0 Hq0 Hs0
    iexact HO
  iintro HO
  iapply (wp_wcopy m c (wR1 c) (fun _ => rfl) (wtok 0) (wsem 0) whalfS0 whalf0_pos) $$ [Hw Hd Hsem]
  · iframe Hw Hd Hsem
  iintro HF
  iapply (wp_done c)
  iapply Hk
  iframe HO HF

/-- The other copies of the first round, and the load of slot 0's tile. -/
theorem part2_spec (v2 : BitVec 32) {Q : (Σ' (v45 : BitVec 32) (v49 : FVec F S512x512 .f32) (v55 : F .f32), FVec F S8x128 .f32) → sProp (MT nD τ sig Unit (Elt F) ℕ UU ℕ)} :
    iprop(xpts m ρ c ∗ wpts m c (wtok 4) ∗ anyTc c whalfS1 ∗ semVal ((c : Thread nD τ), .dma (wsem 4)) 0
        ∗ wpts m c (wtok 1) ∗ anyTc c (wslotS 1) ∗ semVal ((c : Thread nD τ), .dma (wsem 1)) 0
        ∗ wpts m c (wtok 2) ∗ anyTc c (wslotS 2) ∗ semVal ((c : Thread nD τ), .dma (wsem 2)) 0)
      ⊢ iprop((iprop(xpts m ρ c ∗ WFl m c (wR2 c) (fun _ => rfl) (wtok 4) (wsem 4) whalfS1
            ∗ WFl m c (wR3 c 2) (fun _ => rfl) (wtok 1) (wsem 1) (wslotS 1) ∗ WFl m c (wR3 c 0) (fun _ => rfl) (wtok 2) (wsem 2) (wslotS 2))
          -∗ Q ⟨Scalar.remsi (Scalar.addi v2 1#32) 4#32, k0_pay1 (xtile m ρ c 0), k0_pay2 (xtile m ρ c 0), k0_pay3 (xtile m ρ c 0)⟩)
        -∗ WP c Q (k0_part2 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2)) := by
  iintro ⟨Hx, Hw4, Hd4, Hs4, Hw1, Hd1, Hs1, Hw2, Hd2, Hs2⟩ Hk
  unfold WP
  rw [k0_part2_eq_skeleton]
  unfold k0_part2_skel
  simp only [Prog.lift, Prog.bind_op, Prog.bind_ret, Prog.pure_eq_ret]
  iapply (wp_wcopy m c (wR2 c) (fun _ => rfl) (wtok 4) (wsem 4) whalfS1 whalf1_pos) $$ [Hw4 Hd4 Hs4]
  · iframe Hw4 Hd4 Hs4
  iintro HF4
  iapply (wp_wcopy m c (wR3 c 2) (fun _ => rfl) (wtok 1) (wsem 1) (wslotS 1) (wslot_pos 1)) $$ [Hw1 Hd1 Hs1]
  · iframe Hw1 Hd1 Hs1
  iintro HF1
  iapply (wp_wcopy m c (wR3 c 0) (fun _ => rfl) (wtok 2) (wsem 2) (wslotS 2) (wslot_pos 2)) $$ [Hw2 Hd2 Hs2]
  · iframe Hw2 Hd2 Hs2
  iintro HF2
  iapply (wp_load_x m ρ c 0) $$ Hx
  iintro Hx
  iapply (wp_done c)
  iapply Hk
  iframe Hx HF4 HF1 HF2

/-- Slot 0's scale and tile are stored, the barrier awaited, the scale sent. -/
theorem part3_spec (v2 v45 : BitVec 32) {Q : PUnit → sProp (MT nD τ sig Unit (Elt F) ℕ UU ℕ)} :
    iprop(records m ρ K ∗ levAts L lv ∗ anyTc c (scaleM.slice (scaleR 0) (fun _ => rfl)) ∗ anyTc c (tileS c 0) ∗ OW c (P6 c)
        ∗ cred (tallyAt (barCell c) () 3) ∗ atPos ER (barCell c) 0 ∅ 0 ∗ dutyTok ER (xcell c 2 0) 0 0 ∗ dutyTok ER (xcell (peer c 0) 3 0) 0 0)
      ⊢ iprop((iprop(OW c (P5 c) ∗ semVal (barCell c) 0 ∗ ownsTc c (tileS c 0) fullShare (qtile m ρ c 0) ∗ cred (tallyAt (xcell c 2 0) () Ns)
            ∗ (∃ Y, ownsTc (peer c 0) (rtileS 0) fullShare Y) ∗ barPay c 1 ∗ barPay c 2) -∗ Q ⟨⟩)
        -∗ WP c Q (k0_part3 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2 (SemArray.scalar (sig.barrier 0 rfl)) v45 (k0_pay1 (xtile m ρ c 0)) (k0_pay2 (xtile m ρ c 0)) (k0_pay3 (xtile m ρ c 0)))) := by
  iintro ⟨#HR, #Hlev, ⟨%X0, Hs⟩, ⟨%X1, Ht⟩, HO, Hc, Hat, Hd, Hd'⟩ Hk
  unfold WP
  rw [k0_part3_eq_skeleton]
  unfold k0_part3_skel
  simp only [semSignalWord, semWaitWord, Prog.lift, Prog.bind_op, Prog.bind_ret, Prog.pure_eq_ret]
  iapply (wp_load_slice c scaleM (scaleR 0) (fun _ => rfl) fullShare X0) $$ Hs
  iintro Hs
  iapply (wp_store_slice c scaleM (scaleR 0) (fun _ => rfl) (k0_pay8 (xtile m ρ c 0))) $$ [Hs]
  · iexists X0; iexact Hs
  iintro Hs
  ihave Hs := (scale_stored m ρ c 0) $$ Hs
  iapply (wp_load_slice c tileM (rowsR c 0) (fun _ => rfl) fullShare X1) $$ Ht
  iintro Ht
  iapply (wp_store_slice c tileM (rowsR c 0) (fun _ => rfl) (qtile m ρ c 0)) $$ [Ht]
  · iexists X1; iexact Ht
  iintro Ht
  iapply (wp_lent c m ρ K) $$ [HO Hc Hat]
  · iframe HR Hlev HO Hc Hat
  iintro ⟨HO, Hz, H0, H1, H2⟩
  ihave H0 := (barPay_split c 0) $$ H0
  icases H0 with ⟨Hq, Hp⟩
  iapply (wp_send c m ρ K 0 2 3 _ (dev4_eq c) (scaleS 0) (rscaleS 0) (fun _ => qscale m ρ c 0) Ns rfl rfl rfl rfl (xferPay_s m ρ c 0) (P5 c)) $$ [Hs Hp HO Hd Hd']
  · iframe HR Hs Hp Hd Hd'
    iexact HO
  iintro ⟨Hc, HO⟩
  iapply (wp_done c)
  iapply Hk
  iframe HO Hz Ht Hc Hq H1 H2

/-- Slot 0's tile is sent; slot 2's scale and tile are stored. -/
theorem part4_spec (v2 : BitVec 32) {Q : (Σ' (v121 : BitVec 32) (v122 : BitVec 32), BitVec 32) → sProp (MT nD τ sig Unit (Elt F) ℕ UU ℕ)} :
    iprop(records m ρ K ∗ xpts m ρ c ∗ ownsTc c (tileS c 0) fullShare (qtile m ρ c 0) ∗ (∃ Y, ownsTc (peer c 0) (rtileS 0) fullShare Y) ∗ OW c (P5 c)
        ∗ dutyTok ER (xcell c 0 0) 0 0 ∗ dutyTok ER (xcell (peer c 0) 1 0) 0 0 ∗ anyTc c (scaleM.slice (scaleR 2) (fun _ => rfl)) ∗ anyTc c (tileS c 2))
      ⊢ iprop((iprop(xpts m ρ c ∗ OW c (P4 c) ∗ cred (tallyAt (xcell c 0 0) () Nq) ∗ ownsTc c (scaleS 2) fullShare (fun _ => qscale m ρ c 2)
            ∗ ownsTc c (tileS c 2) fullShare (qtile m ρ c 2))
          -∗ Q ⟨Scalar.remsi (Scalar.addi v2 3#32) 4#32, Scalar.muli (Scalar.remsi (Scalar.addi v2 3#32) 4#32) 1#32, 0#32⟩)
        -∗ WP c Q (k0_part4 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2)) := by
  iintro ⟨#HR, Hx, Ht0, Hq, HO, Hd, Hd', ⟨%X0, Hs⟩, ⟨%X1, Ht⟩⟩ Hk
  unfold WP
  rw [k0_part4_eq_skeleton]
  unfold k0_part4_skel
  simp only [Prog.lift, Prog.bind_op, Prog.bind_ret, Prog.pure_eq_ret]
  iapply (wp_send c m ρ K 0 0 1 _ (dev5_eq c) (tileS c 0) (rtileS 0) (qtile m ρ c 0) Nq rfl rfl rfl rfl (xferPay_q m ρ c 0) (P4 c)) $$ [Ht0 Hq HO Hd Hd']
  · iframe HR Ht0 Hq Hd Hd'
    iexact HO
  iintro ⟨Hc, HO⟩
  iapply (wp_load_x m ρ c 2) $$ Hx
  iintro Hx
  iapply (wp_load_slice c scaleM (scaleR 2) (fun _ => rfl) fullShare X0) $$ Hs
  iintro Hs
  iapply (wp_store_slice c scaleM (scaleR 2) (fun _ => rfl) (k0_pay8 (xtile m ρ c 2))) $$ [Hs]
  · iexists X0; iexact Hs
  iintro Hs
  ihave Hs := (scale_stored m ρ c 2) $$ Hs
  iapply (wp_load_slice c tileM (rowsR c 2) (fun _ => rfl) fullShare X1) $$ Ht
  iintro Ht
  iapply (wp_store_slice c tileM (rowsR c 2) (fun _ => rfl) (qtile m ρ c 2)) $$ [Ht]
  · iexists X1; iexact Ht
  iintro Ht
  iapply (wp_done c)
  iapply Hk
  iframe Hx HO Hc Hs Ht

/-- Slot 2's scale and tile are sent, slot 1's tile is loaded. -/
theorem part5_spec (v2 v121 v122 v123 : BitVec 32)
    {Q : (Σ' (v143 : BitVec 32) (v147 : FVec F S512x512 .f32) (v153 : F .f32), FVec F S8x128 .f32) → sProp (MT nD τ sig Unit (Elt F) ℕ UU ℕ)} :
    iprop(records m ρ K ∗ xpts m ρ c ∗ ownsTc c (scaleS 2) fullShare (fun _ => qscale m ρ c 2) ∗ ownsTc c (tileS c 2) fullShare (qtile m ρ c 2) ∗ barPay c 2 ∗ OW c (P4 c)
        ∗ dutyTok ER (xcell c 2 2) 0 0 ∗ dutyTok ER (xcell (peer c 2) 3 2) 0 0 ∗ dutyTok ER (xcell c 0 2) 0 0 ∗ dutyTok ER (xcell (peer c 2) 1 2) 0 0
        ∗ anyTc c (scaleM.slice (scaleR 1) (fun _ => rfl)))
      ⊢ iprop((iprop(xpts m ρ c ∗ OW c (P2 c) ∗ cred (tallyAt (xcell c 2 2) () Ns) ∗ cred (tallyAt (xcell c 0 2) () Nq) ∗ anyTc c (scaleM.slice (scaleR 1) (fun _ => rfl)))
          -∗ Q ⟨Scalar.remsi (Scalar.addi v2 2#32) 4#32, k0_pay10 (xtile m ρ c 1), k0_pay11 (xtile m ρ c 1), k0_pay12 (xtile m ρ c 1)⟩)
        -∗ WP c Q (k0_part5 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2 v121 v122 v123)) := by
  iintro ⟨#HR, Hx, Hs, Ht, H2, HO, Hds, Hds', Hdq, Hdq', ⟨%X0, Hs1⟩⟩ Hk
  ihave H2 := (barPay_split c 2) $$ H2
  icases H2 with ⟨Hq, Hp⟩
  unfold WP
  rw [k0_part5_eq_skeleton]
  unfold k0_part5_skel
  simp only [Prog.lift, Prog.bind_op, Prog.bind_ret, Prog.pure_eq_ret]
  iapply (wp_send c m ρ K 2 2 3 _ (dev6_eq c) (scaleS 2) (rscaleS 2) (fun _ => qscale m ρ c 2) Ns rfl rfl rfl rfl (xferPay_s m ρ c 2) (P3 c)) $$ [Hs Hp HO Hds Hds']
  · iframe HR Hs Hp Hds Hds'
    iexact HO
  iintro ⟨Hcs, HO⟩
  iapply (wp_send c m ρ K 2 0 1 _ (dev7_eq c) (tileS c 2) (rtileS 2) (qtile m ρ c 2) Nq rfl rfl rfl rfl (xferPay_q m ρ c 2) (P2 c)) $$ [Ht Hq HO Hdq Hdq']
  · iframe HR Ht Hq Hdq Hdq'
    iexact HO
  iintro ⟨Hcq, HO⟩
  iapply (wp_load_x m ρ c 1) $$ Hx
  iintro Hx
  iapply (wp_load_slice c scaleM (scaleR 1) (fun _ => rfl) fullShare X0) $$ Hs1
  iintro Hs1
  iapply (wp_done c)
  iapply Hk
  iframe Hx HO Hcs Hcq
  iexists X0; iexact Hs1

/-- Slot 1's scale and tile are stored, the scale sent. -/
theorem part6_spec (v2 v143 : BitVec 32) {Q : PUnit → sProp (MT nD τ sig Unit (Elt F) ℕ UU ℕ)} :
    iprop(records m ρ K ∗ anyTc c (scaleM.slice (scaleR 1) (fun _ => rfl)) ∗ anyTc c (tileS c 1) ∗ (∃ Y, ownsTc (peer c 1) (rscaleS 1) fullShare Y) ∗ OW c (P2 c)
        ∗ dutyTok ER (xcell c 2 1) 0 0 ∗ dutyTok ER (xcell (peer c 1) 3 1) 0 0)
      ⊢ iprop((iprop(OW c (P1 c) ∗ ownsTc c (tileS c 1) fullShare (qtile m ρ c 1) ∗ cred (tallyAt (xcell c 2 1) () Ns)) -∗ Q ⟨⟩)
        -∗ WP c Q (k0_part6 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2 v143 (k0_pay10 (xtile m ρ c 1)) (k0_pay11 (xtile m ρ c 1)) (k0_pay12 (xtile m ρ c 1)))) := by
  iintro ⟨#HR, ⟨%X0, Hs⟩, ⟨%X1, Ht⟩, Hp, HO, Hd, Hd'⟩ Hk
  unfold WP
  rw [k0_part6_eq_skeleton]
  unfold k0_part6_skel
  simp only [Prog.lift, Prog.bind_op, Prog.bind_ret, Prog.pure_eq_ret]
  iapply (wp_store_slice c scaleM (scaleR 1) (fun _ => rfl) (k0_pay8 (xtile m ρ c 1))) $$ [Hs]
  · iexists X0; iexact Hs
  iintro Hs
  ihave Hs := (scale_stored m ρ c 1) $$ Hs
  iapply (wp_load_slice c tileM (rowsR c 1) (fun _ => rfl) fullShare X1) $$ Ht
  iintro Ht
  iapply (wp_store_slice c tileM (rowsR c 1) (fun _ => rfl) (qtile m ρ c 1)) $$ [Ht]
  · iexists X1; iexact Ht
  iintro Ht
  iapply (wp_send c m ρ K 1 2 3 _ (dev8_eq c) (scaleS 1) (rscaleS 1) (fun _ => qscale m ρ c 1) Ns rfl rfl rfl rfl (xferPay_s m ρ c 1) (P1 c)) $$ [Hs Hp HO Hd Hd']
  · iframe HR Hs Hp Hd Hd'
    iexact HO
  iintro ⟨Hc, HO⟩
  iapply (wp_done c)
  iapply Hk
  iframe HO Ht Hc

end

end Cert.Exchange

end
-- ==== Proof.PartsRecv.lean ====
/-
The body's second half, part by part: the own tile's product, then per slot the wait for the received tile, its scale
and the rows of `w`, and their product added; last the waits for the own transfers. Each theorem takes only what its part
touches.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

section
variable (c : Dev nD)

/-! ## What has landed, and its loads -/

/-- Slot `s` of the received tiles, of the received scales, of the rows of `w`. -/
abbrev qslot (s : Fin 3) : sProp 𝕄 := ownsTc c (rtileM.slice (rtileR s) (fun _ => rfl)) fullShare (rq m ρ c s)
abbrev sslot (s : Fin 3) : sProp 𝕄 := ownsTc c (rscaleM.slice (scaleR s) (fun _ => rfl)) fullShare (fun _ => qscale m ρ (back c s) s)
abbrev wslot (s r : Fin 3) : sProp 𝕄 := ownsTc c (wbufM.slice (wslotR s) (fun _ => rfl)) fullShare (wsl m c r)

theorem got_q (s : Fin 3) : (xferPay m ρ c s 1 : sProp 𝕄) ⊢ qslot m ρ c s :=
  owns_unsqueeze c (rtileM.slice (rtileR s) (fun _ => rfl)) squeezes_S1x512x512_S512x512 fullShare (qtile m ρ (back c s) s)
theorem got_s (s : Fin 3) : (xferPay m ρ c s 3 : sProp 𝕄) ⊢ sslot m ρ c s :=
  owns_unsqueeze c (rscaleM.slice (scaleR s) (fun _ => rfl)) squeezes_S1x8x128_S8x128 fullShare (fun _ => qscale m ρ (back c s) s)
theorem got_w (s r : Fin 3) : (ownsTc c (wslotS s) fullShare ((wSrc (wR3 c r) (fun _ => rfl)).view.read (Elt F) (wbuf m c)) : sProp 𝕄) ⊢ wslot m c s r :=
  owns_unsqueeze c (wbufM.slice (wslotR s) (fun _ => rfl)) squeezes_S1x512x2048_S512x2048 fullShare _
theorem got_wA : (ownsTc c whalfS0 fullShare ((wSrc (wR1 c) (fun _ => rfl)).view.read (Elt F) (wbuf m c)) : sProp 𝕄)
    ⊢ ownsTc c (wbufM.slice whalfR0 (fun _ => rfl)) fullShare (wA m c) :=
  owns_unsqueeze c (wbufM.slice whalfR0 (fun _ => rfl)) squeezes_S1x512x1024_S512x1024 fullShare _
theorem got_wB : (ownsTc c whalfS1 fullShare ((wSrc (wR2 c) (fun _ => rfl)).view.read (Elt F) (wbuf m c)) : sProp 𝕄)
    ⊢ ownsTc c (wbufM.slice whalfR1 (fun _ => rfl)) fullShare (wB m c) :=
  owns_unsqueeze c (wbufM.slice whalfR1 (fun _ => rfl)) squeezes_S1x512x1024_S512x1024 fullShare _

section Loads
variable {α : Type} {Q : α → sProp (MT nD τ sig Unit (Elt F) ℕ UU ℕ)}

theorem wp_load_own {hl : xM.view.LoadsAt (Rect.unit (s := S2048x512) (k0_off6 c) S512x512.size (k0_off6_inb c)).toLoadRect}
    {k : (S512x512.Idx → Elt F .f32) → Prog (TpuEff nD τ sig (Elt F) Λ₀ .tc) α} :
    (xpts m ρ c : sProp 𝕄) ⊢ iprop((xpts m ρ c -∗ WP c Q (k (xown m ρ c)))
      -∗ WP c Q (.op (.load xM (Rect.unit (s := S2048x512) (k0_off6 c) S512x512.size (k0_off6_inb c)).toLoadRect hl) k)) := by
  iintro Hx Hk
  iapply (wp_load 𝒱₀ (c : Thread nD τ) none Set.univ (m := xM) (S := Finset.univ) (Finset.subset_univ _)) $$ Hx
  iintro Hx
  iapply Hk $$ Hx

theorem lo_emb (s : Fin 3) (hin : ∀ a, (![s.val, 0, 0] : Fin 3 → ℕ) a + S1x512x1024.size a ≤ S3x512x2048.size a) (j : S1x512x1024.Idx) :
    (wslotR s).emb (lo j) = (Rect.unit (s := S3x512x2048) ![s.val, 0, 0] S1x512x1024.size hin).emb j := by
  funext a
  refine Fin.ext ?_
  rw [Rect.emb_apply, Rect.emb_apply]
  fin_cases a <;> rfl
theorem hi_emb (s : Fin 3) (hin : ∀ a, (![s.val, 0, 1024] : Fin 3 → ℕ) a + S1x512x1024.size a ≤ S3x512x2048.size a) (j : S1x512x1024.Idx) :
    (wslotR s).emb (hi j) = (Rect.unit (s := S3x512x2048) ![s.val, 0, 1024] S1x512x1024.size hin).emb j := by
  funext a
  refine Fin.ext ?_
  rw [Rect.emb_apply, Rect.emb_apply]
  fin_cases a
  · rfl
  · rfl
  · show 0 + 1 * (1024 + (j 2 : ℕ)) = 1024 + 1 * (j 2 : ℕ)
    omega

theorem wp_load_lo (s r : Fin 3) (hin : ∀ a, (![s.val, 0, 0] : Fin 3 → ℕ) a + S1x512x1024.size a ≤ S3x512x2048.size a)
    {hl : wbufM.view.LoadsAt (Rect.unit (s := S3x512x2048) ![s.val, 0, 0] S1x512x1024.size hin).toLoadRect}
    {k : (S1x512x1024.Idx → Elt F .f32) → Prog (TpuEff nD τ sig (Elt F) Λ₀ .tc) α} :
    (wslot m c s r : sProp 𝕄) ⊢ iprop((wslot m c s r -∗ WP c Q (k (wlo m c r)))
      -∗ WP c Q (.op (.load wbufM (Rect.unit (s := S3x512x2048) ![s.val, 0, 0] S1x512x1024.size hin).toLoadRect hl) k)) :=
  wp_load_sub c wbufM (wslotR s) (Rect.unit (s := S3x512x2048) ![s.val, 0, 0] S1x512x1024.size hin) (fun _ => rfl) lo (lo_emb s hin) fullShare (wsl m c r)
theorem wp_load_hi (s r : Fin 3) (hin : ∀ a, (![s.val, 0, 1024] : Fin 3 → ℕ) a + S1x512x1024.size a ≤ S3x512x2048.size a)
    {hl : wbufM.view.LoadsAt (Rect.unit (s := S3x512x2048) ![s.val, 0, 1024] S1x512x1024.size hin).toLoadRect}
    {k : (S1x512x1024.Idx → Elt F .f32) → Prog (TpuEff nD τ sig (Elt F) Λ₀ .tc) α} :
    (wslot m c s r : sProp 𝕄) ⊢ iprop((wslot m c s r -∗ WP c Q (k (whi m c r)))
      -∗ WP c Q (.op (.load wbufM (Rect.unit (s := S3x512x2048) ![s.val, 0, 1024] S1x512x1024.size hin).toLoadRect hl) k)) :=
  wp_load_sub c wbufM (wslotR s) (Rect.unit (s := S3x512x2048) ![s.val, 0, 1024] S1x512x1024.size hin) (fun _ => rfl) hi (hi_emb s hin) fullShare (wsl m c r)

theorem wp_load_q (s : Fin 3) {hl : rtileM.view.LoadsAt (rtileR s).toLoadRect}
    {k : (S1x512x512.Idx → Elt F .i8) → Prog (TpuEff nD τ sig (Elt F) Λ₀ .tc) α} :
    (qslot m ρ c s : sProp 𝕄) ⊢ iprop((qslot m ρ c s -∗ WP c Q (k (rq m ρ c s))) -∗ WP c Q (.op (.load rtileM (rtileR s).toLoadRect hl) k)) :=
  wp_load_slice c rtileM (rtileR s) (fun _ => rfl) fullShare (rq m ρ c s)

theorem wp_load_s (s : Fin 3) (hin : ∀ a, (![s.val, 0, 0] : Fin 3 → ℕ) a + S1x1x1.size a ≤ S3x8x128.size a)
    {hl : rscaleM.view.LoadsAt (Rect.unit (s := S3x8x128) ![s.val, 0, 0] S1x1x1.size hin).toLoadRect}
    {k : (S1x1x1.Idx → Elt F .f32) → Prog (TpuEff nD τ sig (Elt F) Λ₀ .tc) α} :
    (sslot m ρ c s : sProp 𝕄) ⊢ iprop((sslot m ρ c s -∗ WP c Q (k (rs m ρ c s)))
      -∗ WP c Q (.op (.load rscaleM (Rect.unit (s := S3x8x128) ![s.val, 0, 0] S1x1x1.size hin).toLoadRect hl) k)) :=
  wp_load_sub c rscaleM (scaleR s) (Rect.unit (s := S3x8x128) ![s.val, 0, 0] S1x1x1.size hin) (fun _ => rfl)
    (fun _ => ix3 (n0 := 1) (n1 := 8) (n2 := 128) 0 0 0) (fun j => by
      funext a
      refine Fin.ext ?_
      rw [Rect.emb_apply, Rect.emb_apply]
      have h : ((j a : Fin _) : ℕ) = 0 := by
        have := (j a).isLt
        have h1 : S1x1x1.size a = 1 := by fin_cases a <;> rfl
        change _ < S1x1x1.size a at this
        omega
      rw [h]
      fin_cases a <;> rfl) fullShare (fun _ => qscale m ρ (back c s) s)
end Loads

/-! ## The parts -/

/-- Slot 1's tile is sent; the own tile's product. -/
theorem part7_spec (v2 : BitVec 32) {Q : (Σ' (v203 : FVec F S512x1024 .f32), FVec F S512x1024 .f32) → sProp (MT nD τ sig Unit (Elt F) ℕ UU ℕ)} :
    iprop(records m ρ K ∗ xpts m ρ c ∗ ownsTc c (tileS c 1) fullShare (qtile m ρ c 1) ∗ (∃ Y, ownsTc (peer c 1) (rtileS 1) fullShare Y) ∗ OW c (P1 c)
        ∗ dutyTok ER (xcell c 0 1) 0 0 ∗ dutyTok ER (xcell (peer c 1) 1 1) 0 0
        ∗ WFl m c (wR1 c) (fun _ => rfl) (wtok 0) (wsem 0) whalfS0 ∗ WFl m c (wR2 c) (fun _ => rfl) (wtok 4) (wsem 4) whalfS1)
      ⊢ iprop((iprop(xpts m ρ c ∗ OW c 0 ∗ cred (tallyAt (xcell c 0 1) () Nq) ∗ anyTc c (wbufM.slice whalfR0 (fun _ => rfl)) ∗ anyTc c (wbufM.slice whalfR1 (fun _ => rfl))
            ∗ wpts m c (wtok 0) ∗ semVal ((c : Thread nD τ), .dma (wsem 0)) 0 ∗ wpts m c (wtok 4) ∗ semVal ((c : Thread nD τ), .dma (wsem 4)) 0)
          -∗ Q ⟨a0 m ρ c, b0 m ρ c⟩)
        -∗ WP c Q (k0_part7 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2)) := by
  iintro ⟨#HR, Hx, Ht, Hq, HO, Hd, Hd', HF0, HF4⟩ Hk
  unfold WP a0 b0
  rw [k0_part7_eq_skeleton]
  unfold k0_part7_skel
  simp only [Prog.lift, Prog.bind_op, Prog.bind_ret, Prog.pure_eq_ret]
  iapply (wp_send c m ρ K 1 0 1 _ (dev9_eq c) (tileS c 1) (rtileS 1) (qtile m ρ c 1) Nq rfl rfl rfl rfl (xferPay_q m ρ c 1) 0) $$ [Ht Hq HO Hd Hd']
  · iframe HR Ht Hq Hd Hd'
    rw [zero_add]
    iexact HO
  iintro ⟨Hc, HO⟩
  iapply (wp_load_own m ρ c) $$ Hx
  iintro Hx
  iapply (wp_wwait m c (wR1 c) (fun _ => rfl) (wtok 0) (wsem 0) whalfS0 _) $$ [HF0 HO]
  · iframe HF0 HO
  iintro ⟨H0, Hw0, Hs0, HO⟩
  ihave H0 := (got_wA m c) $$ H0
  iapply (wp_load_slice c wbufM whalfR0 (fun _ => rfl) fullShare (wA m c)) $$ H0
  iintro H0
  iapply (wp_wwait m c (wR2 c) (fun _ => rfl) (wtok 4) (wsem 4) whalfS1 _) $$ [HF4 HO]
  · iframe HF4 HO
  iintro ⟨H4, Hw4, Hs4, HO⟩
  ihave H4 := (got_wB m c) $$ H4
  iapply (wp_load_slice c wbufM whalfR1 (fun _ => rfl) fullShare (wB m c)) $$ H4
  iintro H4
  iapply (wp_done c)
  iapply Hk
  iframe Hx HO Hc Hw0 Hs0 Hw4 Hs4
  isplitl [H0]
  · iexists _; iexact H0
  iexists _; iexact H4

/-- The last copy; the rows of `w` for slot 0 have landed, and its scale. -/
theorem part8_spec (v2 : BitVec 32) {Q : PUnit → sProp (MT nD τ sig Unit (Elt F) ℕ UU ℕ)} :
    iprop(records m ρ K ∗ anyTc c (wbufM.slice whalfR0 (fun _ => rfl)) ∗ anyTc c (wbufM.slice whalfR1 (fun _ => rfl))
        ∗ wpts m c (wtok 3) ∗ semVal ((c : Thread nD τ), .dma (wsem 3)) 0 ∗ WFl m c (wR3 c 2) (fun _ => rfl) (wtok 1) (wsem 1) (wslotS 1)
        ∗ OW c 0 ∗ cred (tallyAt (xcell c 3 0) () Ns) ∗ atPos ER (xcell c 3 0) 0 ∅ 0)
      ⊢ iprop((iprop(WFl m c (wR3 c 1) (fun _ => rfl) (wtok 3) (wsem 3) (wslotS 0) ∗ wslot m c 1 2 ∗ wpts m c (wtok 1) ∗ semVal ((c : Thread nD τ), .dma (wsem 1)) 0
            ∗ OW c 0 ∗ semVal (xcell c 3 0) 0 ∗ sslot m ρ c 0) -∗ Q ⟨⟩)
        -∗ WP c Q (k0_part8 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2)) := by
  iintro ⟨#HR, H0, H1, Hw3, Hs3, HF1, HO, Hc, Hat⟩ Hk
  unfold WP
  rw [k0_part8_eq_skeleton]
  unfold k0_part8_skel
  simp only [Prog.lift, Prog.bind_op, Prog.bind_ret, Prog.pure_eq_ret]
  ihave H := (whalf_glue c) $$ [H0 H1]
  · iframe H0 H1
  iapply (wp_wcopy m c (wR3 c 1) (fun _ => rfl) (wtok 3) (wsem 3) (wslotS 0) (wslot_pos 0)) $$ [Hw3 H Hs3]
  · iframe Hw3 H Hs3
  iintro HF3
  iapply (wp_wwait m c (wR3 c 2) (fun _ => rfl) (wtok 1) (wsem 1) (wslotS 1) _) $$ [HF1 HO]
  · iframe HF1 HO
  iintro ⟨H1, Hw1, Hs1, HO⟩
  ihave H1 := (got_w m c 1 2) $$ H1
  iapply (wp_got c m ρ K 3 0 _ (rscaleS 0) Ns rfl rfl) $$ [HO Hc Hat]
  · iframe HR HO Hc Hat
  iintro ⟨HO, Hz, Hp⟩
  ihave Hp := (got_s m ρ c 0) $$ Hp
  iapply (wp_done c)
  iapply Hk
  iframe HF3 H1 Hw1 Hs1 HO Hz Hp

/-- Slot 0's tile has landed; its product; the rows of `w` for slot 2 have landed. -/
theorem part9_spec (v2 : BitVec 32) {Q : (Σ' (v258 : FVec F S512x1024 .f32) (v262 : FVec F S512x1024 .f32), BitVec 32) → sProp (MT nD τ sig Unit (Elt F) ℕ UU ℕ)} :
    iprop(records m ρ K ∗ OW c 0 ∗ cred (tallyAt (xcell c 1 0) () Nq) ∗ atPos ER (xcell c 1 0) 0 ∅ 0 ∗ sslot m ρ c 0 ∗ wslot m c 1 2
        ∗ WFl m c (wR3 c 0) (fun _ => rfl) (wtok 2) (wsem 2) (wslotS 2))
      ⊢ iprop((iprop(OW c 0 ∗ semVal (xcell c 1 0) 0 ∗ qslot m ρ c 0 ∗ sslot m ρ c 0 ∗ wslot m c 1 2 ∗ wslot m c 2 0 ∗ wpts m c (wtok 2)
            ∗ semVal ((c : Thread nD τ), .dma (wsem 2)) 0) -∗ Q ⟨a1 m ρ c, b1 m ρ c, Scalar.remsi (Scalar.addi (Scalar.subi v2 3#32) 4#32) 4#32⟩)
        -∗ WP c Q (k0_part9 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2 (a0 m ρ c) (b0 m ρ c))) := by
  iintro ⟨#HR, HO, Hc, Hat, Hs, Hw, HF2⟩ Hk
  unfold WP a1 b1
  rw [k0_part9_eq_skeleton]
  unfold k0_part9_skel
  simp only [Prog.lift, Prog.bind_op, Prog.bind_ret, Prog.pure_eq_ret]
  iapply (wp_got c m ρ K 1 0 _ (rtileS 0) Nq rfl rfl) $$ [HO Hc Hat]
  · iframe HR HO Hc Hat
  iintro ⟨HO, Hz, Hq⟩
  ihave Hq := (got_q m ρ c 0) $$ Hq
  iapply (wp_load_q m ρ c 0) $$ Hq
  iintro Hq
  iapply (wp_load_s m ρ c 0 inb_S3x8x128_S1x1x1_0_0_0) $$ Hs
  iintro Hs
  iapply (wp_load_lo m c 1 2 inb_S3x512x2048_S1x512x1024_1_0_0) $$ Hw
  iintro Hw
  iapply (wp_load_hi m c 1 2 inb_S3x512x2048_S1x512x1024_1_0_1024) $$ Hw
  iintro Hw
  iapply (wp_wwait m c (wR3 c 0) (fun _ => rfl) (wtok 2) (wsem 2) (wslotS 2) _) $$ [HF2 HO]
  · iframe HF2 HO
  iintro ⟨H2, Hw2, Hs2, HO⟩
  ihave H2 := (got_w m c 2 0) $$ H2
  iapply (wp_done c)
  iapply Hk
  iframe HO Hz Hq Hs Hw H2 Hw2 Hs2

/-- Slot 2's scale and tile have landed; the first half of its product. -/
theorem part10_spec (v273 : BitVec 32) {Q : (Σ' (v296 : FVec F S512x512 .f32) (v300 : FVec F S512x1024 .f32), Vec F S1x512x1024 .f32) → sProp (MT nD τ sig Unit (Elt F) ℕ UU ℕ)} :
    iprop(records m ρ K ∗ OW c 0 ∗ cred (tallyAt (xcell c 3 2) () Ns) ∗ atPos ER (xcell c 3 2) 0 ∅ 0 ∗ cred (tallyAt (xcell c 1 2) () Nq) ∗ atPos ER (xcell c 1 2) 0 ∅ 0
        ∗ wslot m c 2 0)
      ⊢ iprop((iprop(OW c 0 ∗ semVal (xcell c 3 2) 0 ∗ semVal (xcell c 1 2) 0 ∗ qslot m ρ c 2 ∗ sslot m ρ c 2 ∗ wslot m c 2 0)
          -∗ Q ⟨k0_pay21 (rq m ρ c 2) (rs m ρ c 2), a2 m ρ c, whi m c 0⟩)
        -∗ WP c Q (k0_part10 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 (a1 m ρ c) v273)) := by
  iintro ⟨#HR, HO, Hc, Hat, Hc', Hat', Hw⟩ Hk
  unfold WP a2
  rw [k0_part10_eq_skeleton]
  unfold k0_part10_skel
  simp only [Prog.lift, Prog.bind_op, Prog.bind_ret, Prog.pure_eq_ret]
  iapply (wp_got c m ρ K 3 2 _ (rscaleS 2) Ns rfl rfl) $$ [HO Hc Hat]
  · iframe HR HO Hc Hat
  iintro ⟨HO, Hz, Hs⟩
  ihave Hs := (got_s m ρ c 2) $$ Hs
  iapply (wp_got c m ρ K 1 2 _ (rtileS 2) Nq rfl rfl) $$ [HO Hc' Hat']
  · iframe HR HO Hc' Hat'
  iintro ⟨HO, Hz', Hq⟩
  ihave Hq := (got_q m ρ c 2) $$ Hq
  iapply (wp_load_q m ρ c 2) $$ Hq
  iintro Hq
  iapply (wp_load_s m ρ c 2 inb_S3x8x128_S1x1x1_2_0_0) $$ Hs
  iintro Hs
  iapply (wp_load_lo m c 2 0 inb_S3x512x2048_S1x512x1024_2_0_0) $$ Hw
  iintro Hw
  iapply (wp_load_hi m c 2 0 inb_S3x512x2048_S1x512x1024_2_0_1024) $$ Hw
  iintro Hw
  iapply (wp_done c)
  iapply Hk
  iframe HO Hz Hz' Hq Hs Hw

/-- The second half of slot 2's product; the rows of `w` for slot 1 and its scale have landed. -/
theorem part11_spec (v2 : BitVec 32) {Q : FVec F S512x1024 .f32 → sProp (MT nD τ sig Unit (Elt F) ℕ UU ℕ)} :
    iprop(records m ρ K ∗ OW c 0 ∗ WFl m c (wR3 c 1) (fun _ => rfl) (wtok 3) (wsem 3) (wslotS 0) ∗ cred (tallyAt (xcell c 3 1) () Ns) ∗ atPos ER (xcell c 3 1) 0 ∅ 0)
      ⊢ iprop((iprop(OW c 0 ∗ wslot m c 0 1 ∗ wpts m c (wtok 3) ∗ semVal ((c : Thread nD τ), .dma (wsem 3)) 0 ∗ semVal (xcell c 3 1) 0 ∗ sslot m ρ c 1) -∗ Q (b2 m ρ c))
        -∗ WP c Q (k0_part11 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c v2 (b1 m ρ c) (k0_pay21 (rq m ρ c 2) (rs m ρ c 2)) (whi m c 0))) := by
  iintro ⟨#HR, HO, HF3, Hc, Hat⟩ Hk
  unfold WP b2
  rw [k0_part11_eq_skeleton]
  unfold k0_part11_skel
  simp only [Prog.lift, Prog.bind_op, Prog.bind_ret, Prog.pure_eq_ret]
  iapply (wp_wwait m c (wR3 c 1) (fun _ => rfl) (wtok 3) (wsem 3) (wslotS 0) _) $$ [HF3 HO]
  · iframe HF3 HO
  iintro ⟨H, Hw, Hs, HO⟩
  ihave H := (got_w m c 0 1) $$ H
  iapply (wp_got c m ρ K 3 1 _ (rscaleS 1) Ns rfl rfl) $$ [HO Hc Hat]
  · iframe HR HO Hc Hat
  iintro ⟨HO, Hz, Hp⟩
  ihave Hp := (got_s m ρ c 1) $$ Hp
  iapply (wp_done c)
  iapply Hk
  iframe HO H Hw Hs Hz Hp

/-- Slot 1's tile has landed; its product; the first half of the output is stored. -/
theorem part12_spec {Q : (Σ' (v360 : FVec F S512x1024 .f32) (v362 : FVec F S512x1024 .f32), FVec F S512x1024 .f32) → sProp (MT nD τ sig Unit (Elt F) ℕ UU ℕ)} :
    iprop(records m ρ K ∗ OW c 0 ∗ cred (tallyAt (xcell c 1 1) () Nq) ∗ atPos ER (xcell c 1 1) 0 ∅ 0 ∗ sslot m ρ c 1 ∗ wslot m c 0 1 ∗ anyTc c (oM.slice ohalfR0 (fun _ => rfl)))
      ⊢ iprop((iprop(OW c 0 ∗ semVal (xcell c 1 1) 0 ∗ qslot m ρ c 1 ∗ sslot m ρ c 1 ∗ wslot m c 0 1 ∗ ownsTc c (oM.slice ohalfR0 (fun _ => rfl)) fullShare (outA m ρ c))
          -∗ Q ⟨k0_pay26 (b2 m ρ c) (rq m ρ c 1) (rs m ρ c 1) (whi m c 1), k0_pay27 (b2 m ρ c) (rq m ρ c 1) (rs m ρ c 1) (whi m c 1), k0_pay28 (F := F)⟩)
        -∗ WP c Q (k0_part12 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 (a2 m ρ c) (b2 m ρ c))) := by
  iintro ⟨#HR, HO, Hc, Hat, Hs, Hw, ⟨%X, Ho⟩⟩ Hk
  unfold WP
  rw [k0_part12_eq_skeleton]
  unfold k0_part12_skel
  simp only [Prog.lift, Prog.bind_op, Prog.bind_ret, Prog.pure_eq_ret]
  iapply (wp_got c m ρ K 1 1 _ (rtileS 1) Nq rfl rfl) $$ [HO Hc Hat]
  · iframe HR HO Hc Hat
  iintro ⟨HO, Hz, Hq⟩
  ihave Hq := (got_q m ρ c 1) $$ Hq
  iapply (wp_load_q m ρ c 1) $$ Hq
  iintro Hq
  iapply (wp_load_s m ρ c 1 inb_S3x8x128_S1x1x1_1_0_0) $$ Hs
  iintro Hs
  iapply (wp_load_lo m c 0 1 inb_S3x512x2048_S1x512x1024_0_0_0) $$ Hw
  iintro Hw
  iapply (wp_load_slice c oM ohalfR0 (fun _ => rfl) fullShare X) $$ Ho
  iintro Ho
  iapply (wp_store_slice c oM ohalfR0 (fun _ => rfl) (outA m ρ c)) $$ [Ho]
  · iexists X; iexact Ho
  iintro Ho
  iapply (wp_load_hi m c 0 1 inb_S3x512x2048_S1x512x1024_0_0_1024) $$ Hw
  iintro Hw
  iapply (wp_done c)
  iapply Hk
  iframe HO Hz Hq Hs Hw Ho

/-- The second half of the output is stored; slot 0's sources are given back. -/
theorem part13_spec {Q : PUnit → sProp (MT nD τ sig Unit (Elt F) ℕ UU ℕ)} :
    iprop(records m ρ K ∗ OW c 0 ∗ anyTc c (oM.slice ohalfR1 (fun _ => rfl)) ∗ cred (tallyAt (xcell c 2 0) () Ns) ∗ atPos ER (xcell c 2 0) 0 ∅ 0
        ∗ cred (tallyAt (xcell c 0 0) () Nq) ∗ atPos ER (xcell c 0 0) 0 ∅ 0)
      ⊢ iprop((iprop(OW c 0 ∗ ownsTc c (oM.slice ohalfR1 (fun _ => rfl)) fullShare (outB m ρ c) ∗ semVal (xcell c 2 0) 0 ∗ xferPay m ρ c 0 2
            ∗ semVal (xcell c 0 0) 0 ∗ xferPay m ρ c 0 0) -∗ Q ⟨⟩)
        -∗ WP c Q (k0_part13 (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9 c (k0_pay26 (b2 m ρ c) (rq m ρ c 1) (rs m ρ c 1) (whi m c 1))
          (k0_pay27 (b2 m ρ c) (rq m ρ c 1) (rs m ρ c 1) (whi m c 1)) (k0_pay28 (F := F)))) := by
  iintro ⟨#HR, HO, ⟨%X, Ho⟩, Hc, Hat, Hc', Hat'⟩ Hk
  unfold WP
  rw [k0_part13_eq_skeleton]
  unfold k0_part13_skel
  simp only [Prog.lift, Prog.bind_op, Prog.bind_ret, Prog.pure_eq_ret]
  iapply (wp_load_slice c oM ohalfR1 (fun _ => rfl) fullShare X) $$ Ho
  iintro Ho
  iapply (wp_store_slice c oM ohalfR1 (fun _ => rfl) (outB m ρ c)) $$ [Ho]
  · iexists X; iexact Ho
  iintro Ho
  iapply (wp_got c m ρ K 2 0 _ (scaleS 0) Ns rfl rfl) $$ [HO Hc Hat]
  · iframe HR HO Hc Hat
  iintro ⟨HO, Hz, Hp⟩
  iapply (wp_got c m ρ K 0 0 _ (tileS c 0) Nq rfl rfl) $$ [HO Hc' Hat']
  · iframe HR HO Hc' Hat'
  iintro ⟨HO, Hz', Hp'⟩
  iapply (wp_done c)
  iapply Hk
  iframe HO Ho Hz Hp Hz' Hp'

end

end Cert.Exchange

end
-- ==== Proof.Body.lean ====
/-
One device's whole body: what it starts from, what it leaves, and the thirteen parts put together.
-/
module

public import proofs.«01_k».proof.Proof.PartsRecv

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

section
variable (K : Dev nD × CK → ℕ) (c : Dev nD)

/-! ## What a device starts from and what it leaves -/

/-- Its positions at its thirteen cells. -/
def positions (c : Dev nD) : sProp 𝕄 := bigSep Finset.univ fun k : CK => atPos ER (kcell (c, k)) 0 ∅ 0
theorem positions_eq (c : Dev nD) : (positions c : sProp 𝕄) = iprop(atPos ER (barCell c) 0 ∅ 0
    ∗ atPos ER (xcell c 0 0) 0 ∅ 0 ∗ atPos ER (xcell c 0 1) 0 ∅ 0 ∗ atPos ER (xcell c 0 2) 0 ∅ 0
    ∗ atPos ER (xcell c 1 0) 0 ∅ 0 ∗ atPos ER (xcell c 1 1) 0 ∅ 0 ∗ atPos ER (xcell c 1 2) 0 ∅ 0
    ∗ atPos ER (xcell c 2 0) 0 ∅ 0 ∗ atPos ER (xcell c 2 1) 0 ∅ 0 ∗ atPos ER (xcell c 2 2) 0 ∅ 0
    ∗ atPos ER (xcell c 3 0) 0 ∅ 0 ∗ atPos ER (xcell c 3 1) 0 ∅ 0 ∗ atPos ER (xcell c 3 2) 0 ∅ 0) :=
  bigSep_univ_eq_bigSepL [none, some (0, 0), some (0, 1), some (0, 2), some (1, 0), some (1, 1), some (1, 2), some (2, 0), some (2, 1), some (2, 2),
    some (3, 0), some (3, 1), some (3, 2)] (by decide) (by decide) _

/-- The tokens of what it pays: its three signals; per slot the receive cells of the tile and of the scale on the slot's
    peer, its own send cells. -/
def payToks (c : Dev nD) : sProp 𝕄 :=
  iprop((bigSep Finset.univ fun s : Fin 3 => dutyTok ER (barCell (back c s)) 0 s)
    ∗ (bigSep Finset.univ fun s : Fin 3 => dutyTok ER (xcell c 0 s) 0 0) ∗ (bigSep Finset.univ fun s : Fin 3 => dutyTok ER (xcell (peer c s) 1 s) 0 0)
    ∗ (bigSep Finset.univ fun s : Fin 3 => dutyTok ER (xcell c 2 s) 0 0) ∗ (bigSep Finset.univ fun s : Fin 3 => dutyTok ER (xcell (peer c s) 3 s) 0 0))

/-- The credit it is dealt: three units of its barrier cell, one transfer's worth of each of its receive cells. -/
def credits (c : Dev nD) : sProp 𝕄 :=
  iprop(cred (tallyAt (barCell c) () 3) ∗ (bigSep Finset.univ fun s : Fin 3 => cred (tallyAt (xcell c 1 s) () Nq))
    ∗ (bigSep Finset.univ fun s : Fin 3 => cred (tallyAt (xcell c 3 s) () Ns)))

/-- The scratch buffers, at any contents. -/
def scratch (c : Dev nD) : sProp 𝕄 := iprop(anyTc c tileM ∗ anyTc c scaleM ∗ anyTc c rtileM ∗ anyTc c rscaleM ∗ anyTc c wbufM)
/-- The copies' semaphores at zero. -/
def wsems (c : Dev nD) : sProp 𝕄 := bigSep Finset.univ fun i : Fin 5 => semVal ((c : Thread nD τ), .dma (wsem i)) 0
/-- The exchange's semaphores at zero. -/
def xsems (c : Dev nD) : sProp 𝕄 := bigSep Finset.univ fun k : CK => semVal (kcell (c, k)) 0
theorem xsems_eq (c : Dev nD) : (xsems c : sProp 𝕄) = iprop(semVal (barCell c) 0
    ∗ semVal (xcell c 0 0) 0 ∗ semVal (xcell c 0 1) 0 ∗ semVal (xcell c 0 2) 0
    ∗ semVal (xcell c 1 0) 0 ∗ semVal (xcell c 1 1) 0 ∗ semVal (xcell c 1 2) 0
    ∗ semVal (xcell c 2 0) 0 ∗ semVal (xcell c 2 1) 0 ∗ semVal (xcell c 2 2) 0
    ∗ semVal (xcell c 3 0) 0 ∗ semVal (xcell c 3 1) 0 ∗ semVal (xcell c 3 2) 0) :=
  bigSep_univ_eq_bigSepL [none, some (0, 0), some (0, 1), some (0, 2), some (1, 0), some (1, 1), some (1, 2), some (2, 0), some (2, 1), some (2, 2),
    some (3, 0), some (3, 1), some (3, 2)] (by decide) (by decide) _

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- `w` under the five copies' shares, and what is left of it. -/
theorem w_deal (c : Dev nD) : (wpts m c fullShare : sProp 𝕄)
    ⊢ iprop(wpts m c (Transfers.shareDrop fullShare 5) ∗ wpts m c (wtok 0) ∗ wpts m c (wtok 1) ∗ wpts m c (wtok 2) ∗ wpts m c (wtok 3) ∗ wpts m c (wtok 4)) := by
  refine (Transfers.pointsTo_toks_split fullShare 5).trans ?_
  rw [bigSep_fin5]
theorem w_join (c : Dev nD) : iprop(wpts m c (Transfers.shareDrop fullShare 5) ∗ wpts m c (wtok 0) ∗ wpts m c (wtok 1) ∗ wpts m c (wtok 2) ∗ wpts m c (wtok 3) ∗ wpts m c (wtok 4))
    ⊢ (wpts m c fullShare : sProp 𝕄) := by
  refine BI.Entails.trans ?_ (Transfers.pointsTo_toks_join fullShare 5)
  rw [bigSep_fin5]; exact BI.Entails.refl _

def corePre : sProp 𝕄 :=
  iprop(records m ρ K ∗ levAts L lv ∗ positions c ∗ payToks c ∗ credits c ∗ wpts m c fullShare ∗ wsems c ∗ scratch c
    ∗ OW c (O₀ c) ∗ xpts m ρ c ∗ anyTc c oM)
def corePost : sProp 𝕄 :=
  iprop(xsems c ∗ wpts m c fullShare ∗ wsems c ∗ scratch c ∗ OW c 0 ∗ xpts m ρ c ∗ ownsTc c oM fullShare (outAt m ρ c))

/-- A transfer's source, given back. -/
theorem back_q (s : Fin 3) : (xferPay m ρ c s 0 : sProp 𝕄) ⊢ anyTc c (tileS c s) := any_intro c (tileS c s) (qtile m ρ c s)
theorem back_s (s : Fin 3) : (xferPay m ρ c s 2 : sProp 𝕄) ⊢ anyTc c (scaleS s) := any_intro c (scaleS s) (fun _ => qscale m ρ c s)

set_option maxHeartbeats 1600000 in
theorem sound_core {Q : PUnit → sProp (MT nD τ sig Unit (Elt F) ℕ UU ℕ)} :
    (corePre m ρ K c : sProp 𝕄) ⊢ iprop((corePost m ρ c -∗ Q ⟨⟩) -∗ WP c Q (cc0_body (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9)) := by
  unfold corePre positions payToks credits scratch wsems
  simp only [bigSep_fin3, bigSep_fin5]
  rw [show (bigSep Finset.univ fun k : CK => atPos ER (kcell (c, k)) 0 ∅ 0 : sProp 𝕄) = _ from positions_eq c]
  iintro ⟨#HR, #Hlev, ⟨Ab, A00, A01, A02, A10, A11, A12, A20, A21, A22, A30, A31, A32⟩,
    ⟨⟨Tb0, Tb1, Tb2⟩, ⟨T00, T01, T02⟩, ⟨T10, T11, T12⟩, ⟨T20, T21, T22⟩, T30, T31, T32⟩, ⟨Cb, ⟨C10, C11, C12⟩, C30, C31, C32⟩, Hw,
    ⟨S0, S1, S2, S3, S4⟩, ⟨Ht, Hs, Hrt, Hrs, Hwb⟩, HO, Hx, Ho⟩ Hk
  ihave Hw := (w_deal m c) $$ Hw
  icases Hw with ⟨Wr, W0, W1, W2, W3, W4⟩
  ihave Ht := (tile_cut c) $$ Ht
  icases Ht with ⟨Hown, Ht0, Ht1, Ht2⟩
  ihave Hs := (scale_cut c) $$ Hs
  icases Hs with ⟨Hs0, Hs1, Hs2⟩
  ihave Hrt := (rtile_cut c) $$ Hrt
  icases Hrt with ⟨Rt0, Rt1, Rt2⟩
  ihave Hrs := (rscale_cut c) $$ Hrs
  icases Hrs with ⟨Rs0, Rs1, Rs2⟩
  ihave Hwb := (wbuf_cut c) $$ Hwb
  icases Hwb with ⟨B0, B1, B2, B3⟩
  ihave Ho := (out_cut c) $$ Ho
  icases Ho with ⟨Ho0, Ho1⟩
  unfold WP
  rw [cc0_body_eq_skeleton]
  unfold cc0_body_skel
  simp only [Prog.lift, Prog.bind_op, Prog.bind_ret, Prog.pure_eq_ret, wp_bind]
  iapply (part1_spec m ρ K c) $$ [HO Tb0 Tb1 Tb2 Rt0 Rt1 Rt2 Rs0 Rs1 Rs2 W0 B0 S0]
  · iframe HR HO Tb0 Tb1 Tb2 Rt0 Rt1 Rt2 Rs0 Rs1 Rs2 W0 B0 S0
  iintro ⟨HO, F0⟩
  try dsimp only
  iapply (part2_spec m ρ c (dword c)) $$ [Hx W4 B1 S4 W1 B2 S1 W2 B3 S2]
  · iframe Hx W4 B1 S4 W1 B2 S1 W2 B3 S2
  iintro ⟨Hx, F4, F1, F2⟩
  try dsimp only
  iapply (part3_spec m ρ K c (dword c) _) $$ [Hs0 Ht0 HO Cb Ab T20 T30]
  · iframe HR Hlev Hs0 Ht0 HO Cb Ab T20 T30
  iintro ⟨HO, Zb, Ht0, C20, Y0, Hb1, Hb2⟩
  ihave Hb1 := (barPay_split c 1) $$ Hb1
  icases Hb1 with ⟨Yt1, Ys1⟩
  try dsimp only
  iapply (part4_spec m ρ K c (dword c)) $$ [Hx Ht0 Y0 HO T00 T10 Hs2 Ht2]
  · iframe HR Hx Ht0 Y0 HO T00 T10 Hs2 Ht2
  iintro ⟨Hx, HO, C00, Hs2, Ht2⟩
  try dsimp only
  iapply (part5_spec m ρ K c (dword c) _ _ _) $$ [Hx Hs2 Ht2 Hb2 HO T22 T32 T02 T12 Hs1]
  · iframe HR Hx Hs2 Ht2 Hb2 HO T22 T32 T02 T12 Hs1
  iintro ⟨Hx, HO, C22, C02, Hs1⟩
  try dsimp only
  iapply (part6_spec m ρ K c (dword c) _) $$ [Hs1 Ht1 Ys1 HO T21 T31]
  · iframe HR Hs1 Ht1 Ys1 HO T21 T31
  iintro ⟨HO, Ht1, C21⟩
  try dsimp only
  iapply (part7_spec m ρ K c (dword c)) $$ [Hx Ht1 Yt1 HO T01 T11 F0 F4]
  · iframe HR Hx Ht1 Yt1 HO T01 T11 F0 F4
  iintro ⟨Hx, HO, C01, B0, B1, W0, S0, W4, S4⟩
  try dsimp only
  iapply (part8_spec m ρ K c (dword c)) $$ [B0 B1 W3 S3 F1 HO C30 A30]
  · iframe HR B0 B1 W3 S3 F1 HO C30 A30
  iintro ⟨F3, B2, W1, S1, HO, Z30, Rs0⟩
  try dsimp only
  iapply (part9_spec m ρ K c (dword c)) $$ [HO C10 A10 Rs0 B2 F2]
  · iframe HR HO C10 A10 Rs0 B2 F2
  iintro ⟨HO, Z10, Rt0, Rs0, B2, B3, W2, S2⟩
  try dsimp only
  iapply (part10_spec m ρ K c _) $$ [HO C32 A32 C12 A12 B3]
  · iframe HR HO C32 A32 C12 A12 B3
  iintro ⟨HO, Z32, Z12, Rt2, Rs2, B3⟩
  try dsimp only
  iapply (part11_spec m ρ K c (dword c)) $$ [HO F3 C31 A31]
  · iframe HR HO F3 C31 A31
  iintro ⟨HO, B0, W3, S3, Z31, Rs1⟩
  try dsimp only
  iapply (part12_spec m ρ K c) $$ [HO C11 A11 Rs1 B0 Ho0]
  · iframe HR HO C11 A11 Rs1 B0 Ho0
  iintro ⟨HO, Z11, Rt1, Rs1, B0, Ho0⟩
  try dsimp only
  iapply (part13_spec m ρ K c) $$ [HO Ho1 C20 A20 C00 A00]
  · iframe HR HO Ho1 C20 A20 C00 A00
  iintro ⟨HO, Ho1, Z20, Hs0, Z00, Ht0⟩
  try dsimp only
  iapply (wp_got c m ρ K 2 2 _ (scaleS 2) Ns rfl rfl) $$ [HO C22 A22]
  · iframe HR HO C22 A22
  iintro ⟨HO, Z22, Hs2⟩
  iapply (wp_got c m ρ K 0 2 _ (tileS c 2) Nq rfl rfl) $$ [HO C02 A02]
  · iframe HR HO C02 A02
  iintro ⟨HO, Z02, Ht2⟩
  iapply (wp_got c m ρ K 2 1 _ (scaleS 1) Ns rfl rfl) $$ [HO C21 A21]
  · iframe HR HO C21 A21
  iintro ⟨HO, Z21, Hs1⟩
  iapply (wp_got c m ρ K 0 1 _ (tileS c 1) Nq rfl rfl) $$ [HO C01 A01]
  · iframe HR HO C01 A01
  iintro ⟨HO, Z01, Ht1⟩
  iapply (wp_done c)
  iapply Hk
  unfold corePost scratch wsems
  rw [xsems_eq, bigSep_fin5]
  ihave Hs0 := (back_s m ρ c 0) $$ Hs0
  ihave Hs1 := (back_s m ρ c 1) $$ Hs1
  ihave Hs2 := (back_s m ρ c 2) $$ Hs2
  ihave Ht0 := (back_q m ρ c 0) $$ Ht0
  ihave Ht1 := (back_q m ρ c 1) $$ Ht1
  ihave Ht2 := (back_q m ρ c 2) $$ Ht2
  ihave Ht := (tile_glue c) $$ [Hown Ht0 Ht1 Ht2]
  · iframe Hown Ht0 Ht1 Ht2
  ihave Hs := (scale_glue c) $$ [Hs0 Hs1 Hs2]
  · iframe Hs0 Hs1 Hs2
  ihave Rt0 := (any_intro c _ _) $$ Rt0
  ihave Rt1 := (any_intro c _ _) $$ Rt1
  ihave Rt2 := (any_intro c _ _) $$ Rt2
  ihave Rs0 := (any_intro c _ _) $$ Rs0
  ihave Rs1 := (any_intro c _ _) $$ Rs1
  ihave Rs2 := (any_intro c _ _) $$ Rs2
  ihave B0 := (any_intro c _ _) $$ B0
  ihave B2 := (any_intro c _ _) $$ B2
  ihave B3 := (any_intro c _ _) $$ B3
  ihave Hrt := (rtile_glue c) $$ [Rt0 Rt1 Rt2]
  · iframe Rt0 Rt1 Rt2
  ihave Hrs := (rscale_glue c) $$ [Rs0 Rs1 Rs2]
  · iframe Rs0 Rs1 Rs2
  ihave Hwb := (wbuf_glue c) $$ [B0 B2 B3]
  · iframe B0 B2 B3
  ihave Ho := (out_glue c (outAt m ρ c) _ _ (outAt_lo m ρ c) (outAt_hi m ρ c)) $$ [Ho0 Ho1]
  · iframe Ho0 Ho1
  ihave Hw := (w_join m c) $$ [Wr W0 W1 W2 W3 W4]
  · iframe Wr W0 W1 W2 W3 W4
  iframe Zb Z00 Z01 Z02 Z10 Z11 Z12 Z20 Z21 Z22 Z30 Z31 Z32 Hw S0 S1 S2 S3 S4 Ht Hs Hrt Hrs Hwb HO Hx Ho
end

end Cert.Exchange

end
-- ==== Proof.Point.lean ====
/-
The pipeline's proof data and its body obligation: the body, from what the launch and the pipeline hand it to what they
take back.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

open Idealize.ShloMosaic.Pipeline (Dat Cfg Window BodyObligation cellOf)
variable (m : (ℓ : Loc nD τ sig) → Buf (Elt F) ℓ) (ρ : Dev nD → PrngReg)

/-! ## The proof data -/

/-- What device `c` starts from beside its scratch buffers. -/
def start (c : Dev nD) : sProp 𝕄 :=
  iprop((∃ K, records m ρ K ∗ positions c ∗ payToks c) ∗ wsems c ∗ credits c ∗ levAts L lv ∗ wpts m c fullShare)

/-- Before the body and after it. -/
def before₀ (c : Dev nD) : sProp 𝕄 := iprop(start m ρ c ∗ scratch c)
def after₀ (c : Dev nD) : sProp 𝕄 := iprop(xsems c ∗ wsems c ∗ wpts m c fullShare ∗ scratch c)

/-- One point: `x` staged, the output window left at `outAt`; the launch debts before, none after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => before₀ m ρ c
    | ⟨_ + 1, _⟩ => after₀ m c
  q _ := fullShare
  owed t := match t with
    | ⟨0, _⟩ => O₀ c
    | ⟨_ + 1, _⟩ => 0

def pt : Fin cfg0.N := t0_0
theorem only_pt (t : Fin cfg0.N) : t = pt := fin_N0 t

/-- A whole buffer owned at `X`. -/
theorem owns_whole_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A whole staging buffer holding `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem held_any (c : Dev nD) (b : Ref sig .tc) (X : b.ty.Contents (Elt F)) : (held c b X : sProp 𝕄) ⊢ anyTc c (Memref.whole b) := by
  iintro ⟨%f, -, H⟩
  iapply (any_of_pts c b)
  iexists f
  iexact H
theorem held_out (c : Dev nD) : (ownsTc c oM fullShare (outAt m ρ c) : sProp 𝕄) ⊢ held c cc0_stg1_0 (outAt m ρ c) :=
  Entails.of_eq (owns_whole_pts c cc0_stg1_0 (outAt m ρ c))

def given (c : Dev nD) : sProp 𝕄 :=
  iprop(before₀ m ρ c ∗ (dats m ρ 0 c).owesAt () pt.castSucc
    ∗ (∃ d, held c cc0_stg0_0 ((dats m ρ 0 c).before (0 : Fin 2) pt d)) ∗ (∃ d, held c cc0_stg1_0 ((dats m ρ 0 c).before (1 : Fin 2) pt d)))
def taken (c : Dev nD) : sProp 𝕄 :=
  iprop(after₀ m c ∗ (dats m ρ 0 c).owesAt () pt.succ ∗ held c cc0_stg0_0 (xstg m ρ c) ∗ held c cc0_stg1_0 (outAt m ρ c))

theorem sound_body (c : Dev nD) :
    (given m ρ c : sProp 𝕄) ⊢ WP c (fun _ => taken m ρ c) (cc0_body (F := F) xM (Memref.isWhole_whole _) wM (Memref.isWhole_whole _) oM (Memref.isWhole_whole _) tileM (Memref.isWhole_whole _) scaleM (Memref.isWhole_whole _) rtileM (Memref.isWhole_whole _)
          rscaleM (Memref.isWhole_whole _) wbufM (Memref.isWhole_whole _) cc0_scratch5 cc0_scratch6 cc0_scratch7 cc0_scratch8 cc0_scratch9) := by
  unfold given before₀ start
  iintro ⟨⟨⟨⟨%K, #HR, Hpos, Htok⟩, Hws, Hcr, #Hlev, Hw⟩, Hscr⟩, Ho, ⟨%d0, %g0, %hg0, Hx⟩, ⟨%d1, Hout⟩⟩
  have hx : g0 = xstg m ρ c := by
    rw [hg0]; unfold Dat.before; rw [if_pos (fetch0_0 pt)]; rfl
  subst hx
  unfold Dat.owesAt Pipeline.owesWithin
  icases Ho with ⟨%W, -, HO⟩
  rw [show (dats m ρ 0 c).owed pt.castSucc = O₀ c from rfl]
  ihave Hout := (held_any c cc0_stg1_0 _) $$ Hout
  iapply (sound_core m ρ K c) $$ [Hpos Htok Hws Hcr Hw Hscr HO Hx Hout]
  · unfold corePre OW
    iframe HR Hlev Hpos Htok Hcr Hw Hws Hscr Hx Hout
    iexists W
    iexact HO
  iintro Hpost
  unfold corePost OW taken after₀ Dat.owesAt Pipeline.owesWithin
  rw [show (dats m ρ 0 c).owed pt.succ = 0 from rfl]
  icases Hpost with ⟨Hz, Hw, Hws, Hscr, ⟨%W', HO⟩, Hx, Hout⟩
  ihave Hout := (held_out m ρ c) $$ Hout
  iframe Hz Hws Hw Hscr Hout
  isplitl [HO]
  · iexists W'
    isplitr; · ipureintro; exact fun _ _ => Or.inl trivial
    iexact HO
  iexists (xstg m ρ c)
  isplitr; · ipureintro; rfl
  iexact Hx

set_option maxRecDepth 4000 in
theorem body_obligation (c : Dev nD) : BodyObligation (dats (F := F) m ρ 0 c) (defs₀ (F := F)) 𝒱₀ () Set.univ := fun t => by
  rw [only_pt t]
  rw [bigSep_W0, bigSep_W0]
  simp only [owns_whole_pts]
  exact sound_body m ρ c

end Cert.Exchange

end
-- ==== Proof.Launch.lean ====
/-
The launch: the ghost state minted and dealt around the ring, the cells' invariants allocated, each device's credit, and
the run of the whole program.
-/
module

public import proofs.«01_k».proof.Proof.Point
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

open Idealize.ShloMosaic.Pipeline (Dat Cfg Window BodyObligation cellOf)
variable (m : (ℓ : Loc nD τ sig) → Buf (Elt F) ℓ) (ρ : Dev nD → PrngReg)

/-- The kernel's own semaphores: the exchange's twelve, the copies' five. -/
abbrev osem : Fin 17 → SemLoc sig := fun i => .dma ⟨2 + i.val, by revert i; decide⟩
theorem ownSemFacts : Pipeline.OwnSemFacts cfg0.spec osem := by decide

theorem share_full (c : Dev nD) (w : Fin cfg0.W) : (dats m ρ 0 c).share w = fullShare := by unfold Dat.share; split <;> rfl

/-! ## The launch element -/

def ringCells : Finset (GSem nD τ sig) := Finset.univ.map ⟨kcell, kcell_injective⟩

/-- The duty tokens minted: of a barrier cell the three duties, of a transfer's cell the one. -/
abbrev TK : Type := Fin 5 × Fin 3
def tokOf (x : Dev nD × TK) : GSem nD τ sig × ℕ × Fin 3 :=
  if h : x.2.1.val < 4 then (xcell x.1 ⟨x.2.1.val, h⟩ x.2.2, 0, 0) else (barCell x.1, 0, x.2.2)
theorem tokOf_injective : Function.Injective tokOf := by
  rintro ⟨c, j, s⟩ ⟨c', j', s'⟩ h
  unfold tokOf at h
  dsimp only at h
  split at h <;> split at h
  · rename_i h1 h2
    have e : kcell (c, some (⟨j.val, h1⟩, s)) = kcell (c', some (⟨j'.val, h2⟩, s')) := congrArg Prod.fst h
    have e := kcell_injective e
    injection e with e1 e2
    injection e2 with e2
    injection e2 with e2 e3
    rw [e1, e3, Fin.ext (show j.val = j'.val from Fin.mk.inj e2)]
  · rename_i h1 h2
    have e : kcell (c, some (⟨j.val, h1⟩, s)) = kcell (c', none) := congrArg Prod.fst h
    exact absurd (congrArg Prod.snd (kcell_injective e)) (by simp)
  · rename_i h1 h2
    have e : kcell (c, none) = kcell (c', some (⟨j'.val, h2⟩, s')) := congrArg Prod.fst h
    exact absurd (congrArg Prod.snd (kcell_injective e)) (by simp)
  · rename_i h1 h2
    have e : kcell (c, none) = kcell (c', none) := congrArg Prod.fst h
    have e1 : c = c' := congrArg Prod.fst (kcell_injective e)
    have e2 : s = s' := congrArg (fun x : GSem nD τ sig × ℕ × Fin 3 => x.2.2) h
    have e3 : j = j' := Fin.ext (by have := j.isLt; have := j'.isLt; omega)
    rw [e1, e2, e3]
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, (1 : Counters)))

theorem ownU_parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def ownToks (c : Dev nD) : sProp 𝕄 :=
  iprop((bigSep Finset.univ fun s : Fin 3 => dutyTok ER (xcell c 0 s) 0 0) ∗ (bigSep Finset.univ fun s : Fin 3 => dutyTok ER (xcell c 1 s) 0 0)
    ∗ (bigSep Finset.univ fun s : Fin 3 => dutyTok ER (xcell c 2 s) 0 0) ∗ (bigSep Finset.univ fun s : Fin 3 => dutyTok ER (xcell c 3 s) 0 0)
    ∗ (bigSep Finset.univ fun s : Fin 3 => dutyTok ER (barCell c) 0 s))

/-- What the launch element deals device `c`; what the global step makes of it. -/
def G (c : Dev nD) : sProp 𝕄 :=
  iprop((bigSep Finset.univ fun k : CK => roundState ER (ringRd m ρ) (kcell (c, k)) 0)
    ∗ ((bigSep Finset.univ fun k : CK => atPos ER (kcell (c, k)) 0 ∅ 0) ∗ bigSep Finset.univ fun k : CK => reached ER (kcell (c, k)) 0) ∗ ownToks c)
def G' (c : Dev nD) : sProp 𝕄 := iprop((∃ K, records m ρ K ∗ positions c ∗ payToks c) ∗ wsems c)

theorem over_cells (Φ : GSem nD τ sig → sProp 𝕄) : bigSep ringCells Φ = bigSep Finset.univ fun c : Dev nD => bigSep Finset.univ fun k : CK => Φ (kcell (c, k)) := by
  unfold ringCells; rw [bigSep_map, bigSep_univ_prod]; rfl
theorem over_toks : bigSep ringToks (fun x => (dutyTok ER x.1 x.2.1 x.2.2 : sProp 𝕄)) = bigSep Finset.univ fun c : Dev nD => ownToks c := by
  unfold ringToks; rw [bigSep_map, bigSep_univ_prod]
  refine bigSep_congr fun c _ => ?_
  rw [bigSep_univ_prod, bigSep_fin5]
  rfl

theorem fund_ring : BI.own (ER (initOf ringCells ringToks)) ⊢ (|==> bigSep Finset.univ (G m ρ) : sProp 𝕄) := by
  iintro H
  imod (Rounds.fund ER (ringRd m ρ) ringCells ringToks) $$ H with ⟨Hst, Hr, Hat, Htok⟩
  imodintro
  ihave Hst := (Entails.of_eq (over_cells fun g => roundState ER (ringRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  iframe Hst Hat Hr Htok

/-! ## The semaphores at launch -/

theorem ownSems0_parts (c : Dev nD) : (Pipeline.ownSems0 (Ix := Unit) (Name := ℕ) (U := UU) (Lvl := ℕ) (Val := Elt F) (τ := τ) osem c : sProp 𝕄)
    = iprop(semVal (xcell c 0 0) 0 ∗ semVal (xcell c 0 1) 0 ∗ semVal (xcell c 0 2) 0
    ∗ semVal (xcell c 1 0) 0 ∗ semVal (xcell c 1 1) 0 ∗ semVal (xcell c 1 2) 0
    ∗ semVal (xcell c 2 0) 0 ∗ semVal (xcell c 2 1) 0 ∗ semVal (xcell c 2 2) 0
    ∗ semVal (xcell c 3 0) 0 ∗ semVal (xcell c 3 1) 0 ∗ semVal (xcell c 3 2) 0
    ∗ semVal ((c : Thread nD τ), .dma (wsem 0)) 0 ∗ semVal ((c : Thread nD τ), .dma (wsem 1)) 0 ∗ semVal ((c : Thread nD τ), .dma (wsem 2)) 0
    ∗ semVal ((c : Thread nD τ), .dma (wsem 3)) 0 ∗ semVal ((c : Thread nD τ), .dma (wsem 4)) 0) := by
  rw [Pipeline.ownSems0_eq_of_list c osem [0, 1, 2, 3, 4, 5, 6, 7, 8, 9, 10, 11, 12, 13, 14, 15, 16] (by decide) (by decide)]; rfl
theorem unscopedSems0_bar (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c) ⊢ (iprop(xsems c ∗ wsems c) : sProp 𝕄) := by
  rw [ownSems0_parts, unscopedSems0_bar, xsems_eq]
  unfold wsems
  rw [bigSep_fin5]
  iintro ⟨⟨Z00, Z01, Z02, Z10, Z11, Z12, Z20, Z21, Z22, Z30, Z31, Z32, S0, S1, S2, S3, S4⟩, Zb⟩
  iframe Zb Z00 Z01 Z02 Z10 Z11 Z12 Z20 Z21 Z22 Z30 Z31 Z32 S0 S1 S2 S3 S4
theorem sems_join (c : Dev nD) :
    (iprop(xsems c ∗ wsems c) : sProp 𝕄) ⊢ iprop(unscopedSems0 c ∗ Pipeline.ownSems0 (Ix := Unit) (Name := ℕ) (U := UU) (Lvl := ℕ) (Val := Elt F) (τ := τ) osem c) := by
  rw [ownSems0_parts, unscopedSems0_bar, xsems_eq]
  unfold wsems
  rw [bigSep_fin5]
  iintro ⟨⟨Zb, Z00, Z01, Z02, Z10, Z11, Z12, Z20, Z21, Z22, Z30, Z31, Z32⟩, S0, S1, S2, S3, S4⟩
  iframe Zb Z00 Z01 Z02 Z10 Z11 Z12 Z20 Z21 Z22 Z30 Z31 Z32 S0 S1 S2 S3 S4

/-! ## The global step -/

theorem core_alloc (c : Dev nD) :
    iprop(Pipeline.ownSems0 (Ix := Unit) (Name := ℕ) (U := UU) (Lvl := ℕ) (Val := Elt F) (τ := τ) osem c ∗ unscopedSems0 c ∗ G m ρ c)
      ⊢ (|={Set.univ}=> iprop((bigSep Finset.univ fun k : CK => iprop(∃ κ : ℕ, cellInv ER (ringRd m ρ) κ (kcell (c, k))))
          ∗ (bigSep Finset.univ fun k : CK => reached ER (kcell (c, k)) 0) ∗ ownToks c ∗ positions c ∗ wsems c) : sProp 𝕄) := by
  unfold G
  iintro ⟨Hos, Hus, Hst, ⟨Hat, Hr⟩, Htok⟩
  ihave Hv := (sems_split (F := F) c) $$ [Hos Hus]
  · iframe Hos Hus
  icases Hv with ⟨Hv, Hws⟩
  imod (show iprop(xsems c ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        unfold xsems
        rw [← bigSep_sep']
        exact (bigSep_mono fun k _ => (Rounds.body_intro ER (ringRd m ρ) (kcell (c, k))).trans inv_alloc).trans (bigSep_fupd _ _)) $$ [Hv Hst] with Hinv
  · iframe Hv Hst
  imodintro
  unfold positions
  iframe Hinv Hr Htok Hat Hws

/-- The tokens dealt around the ring: each to the device that pays the duty. -/
theorem toks_around : (bigSep Finset.univ fun c : Dev nD => (ownToks c : sProp 𝕄)) ⊢ bigSep Finset.univ fun c : Dev nD => payToks c := by
  unfold ownToks payToks
  simp only [bigSep_fin3, bigSep_sep']
  rw [bigSep_univ_equiv (shift 0) (fun c : Dev nD => (dutyTok ER (xcell c 1 0) 0 0 : sProp 𝕄)),
    bigSep_univ_equiv (shift 1) (fun c : Dev nD => (dutyTok ER (xcell c 1 1) 0 0 : sProp 𝕄)),
    bigSep_univ_equiv (shift 2) (fun c : Dev nD => (dutyTok ER (xcell c 1 2) 0 0 : sProp 𝕄)),
    bigSep_univ_equiv (shift 0) (fun c : Dev nD => (dutyTok ER (xcell c 3 0) 0 0 : sProp 𝕄)),
    bigSep_univ_equiv (shift 1) (fun c : Dev nD => (dutyTok ER (xcell c 3 1) 0 0 : sProp 𝕄)),
    bigSep_univ_equiv (shift 2) (fun c : Dev nD => (dutyTok ER (xcell c 3 2) 0 0 : sProp 𝕄)),
    bigSep_univ_equiv (shift 0).symm (fun c : Dev nD => (dutyTok ER (barCell c) 0 0 : sProp 𝕄)),
    bigSep_univ_equiv (shift 1).symm (fun c : Dev nD => (dutyTok ER (barCell c) 0 1 : sProp 𝕄)),
    bigSep_univ_equiv (shift 2).symm (fun c : Dev nD => (dutyTok ER (barCell c) 0 2 : sProp 𝕄))]
  iintro ⟨⟨A0, A1, A2⟩, ⟨B0, B1, B2⟩, ⟨C0, C1, C2⟩, ⟨D0, D1, D2⟩, E0, E1, E2⟩
  isplitl [E0 E1 E2]
  · isplitl [E0]; · iexact E0
    isplitl [E1]; · iexact E1
    iexact E2
  isplitl [A0 A1 A2]
  · iframe A0 A1 A2
  isplitl [B0 B1 B2]
  · isplitl [B0]; · iexact B0
    isplitl [B1]; · iexact B1
    iexact B2
  isplitl [C0 C1 C2]
  · iframe C0 C1 C2
  isplitl [D0]; · iexact D0
  isplitl [D1]; · iexact D1
  iexact D2

theorem regroup :
    (bigSep Finset.univ fun c : Dev nD => iprop((bigSep Finset.univ fun k : CK => iprop(∃ κ : ℕ, cellInv ER (ringRd m ρ) κ (kcell (c, k))))
          ∗ (bigSep Finset.univ fun k : CK => reached ER (kcell (c, k)) 0) ∗ ownToks c ∗ positions c ∗ wsems c) : sProp 𝕄)
      ⊢ bigSep Finset.univ (G' m ρ) := by
  simp only [bigSep_sep']
  rw [← bigSep_univ_prod (fun ck : Dev nD × CK => iprop(∃ κ : ℕ, cellInv ER (ringRd m ρ) κ (kcell ck))),
    ← bigSep_univ_prod (fun ck : Dev nD × CK => (reached ER (kcell ck) 0 : sProp 𝕄))]
  iintro ⟨HI, #HR, Htok, Hpos, Hws⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htok := (toks_around (F := F)) $$ Htok
  iapply (bigSep_with_persistent (R := records m ρ K) (Φ := fun c => iprop(positions c ∗ payToks c ∗ wsems c)) fun c _ => by
    unfold G'
    iintro ⟨#HR, Hp, Ht, Hw⟩
    iframe Hw
    iexists K
    iframe HR Hp Ht)
  isplitr
  · unfold records; isplitl; · iexact HI
    iexact HR
  simp only [bigSep_sep']
  iframe Hpos Htok Hws

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A debt towards the device `s + 1` places after, and towards the device as many places before. -/
theorem cred_peer {O' : Dev nD → CellTallies nD τ sig Unit} (O : Dev nD → CellTallies nD τ sig Unit) (s : Fin 3) (sm : SemLoc sig) (n : ℕ)
    (h : O' = fun d => O d + tallyAt ((peer d s : Thread nD τ), sm) () n) (c : Dev nD) :
    (Pipeline.launchCred O' c : sProp 𝕄)
      ⊢ iprop(Pipeline.launchCred O c ∗ cred (tallyAt ((c : Thread nD τ), sm) () n)) := by
  rw [h, Pipeline.launchCred_add]
  exact sep_mono_right (Pipeline.launchCred_tallyAt sm (fun d => peer d s) (fun d => back d s) (fun d => peer_back d s) (fun d => back_peer d s) () n c)
theorem cred_back {O' : Dev nD → CellTallies nD τ sig Unit} (O : Dev nD → CellTallies nD τ sig Unit) (s : Fin 3) (sm : SemLoc sig) (n : ℕ)
    (h : O' = fun d => O d + tallyAt ((back d s : Thread nD τ), sm) () n) (c : Dev nD) :
    (Pipeline.launchCred O' c : sProp 𝕄)
      ⊢ iprop(Pipeline.launchCred O c ∗ cred (tallyAt ((c : Thread nD τ), sm) () n)) := by
  rw [h, Pipeline.launchCred_add]
  exact sep_mono_right (Pipeline.launchCred_tallyAt sm (fun d => back d s) (fun d => peer d s) (fun d => back_peer d s) (fun d => peer_back d s) () n c)

theorem creds (c : Dev nD) : (Pipeline.launchCred O₀ c : sProp 𝕄) ⊢ credits c := by
  unfold credits
  simp only [bigSep_fin3]
  iintro H
  ihave H := (cred_back (O' := O₀) P8 2 (.reg barS) 1 rfl c) $$ H
  icases H with ⟨H, B2⟩
  ihave H := (cred_back (O' := P8) P7 1 (.reg barS) 1 rfl c) $$ H
  icases H with ⟨H, B1⟩
  ihave H := (cred_back (O' := P7) P6 0 (.reg barS) 1 rfl c) $$ H
  icases H with ⟨H, B0⟩
  ihave H := (cred_peer (O' := P6) P5 0 (.dma (xsem 3 0)) Ns rfl c) $$ H
  icases H with ⟨H, S0⟩
  ihave H := (cred_peer (O' := P5) P4 0 (.dma (xsem 1 0)) Nq rfl c) $$ H
  icases H with ⟨H, T0⟩
  ihave H := (cred_peer (O' := P4) P3 2 (.dma (xsem 3 2)) Ns rfl c) $$ H
  icases H with ⟨H, S2⟩
  ihave H := (cred_peer (O' := P3) P2 2 (.dma (xsem 1 2)) Nq rfl c) $$ H
  icases H with ⟨H, T2⟩
  ihave H := (cred_peer (O' := P2) P1 1 (.dma (xsem 3 1)) Ns rfl c) $$ H
  icases H with ⟨H, S1⟩
  ihave T1 := (show (Pipeline.launchCred P1 c : sProp 𝕄) ⊢ cred (tallyAt (xcell c 1 1) () Nq) from
    Pipeline.launchCred_tallyAt (.dma (xsem 1 1)) (fun d => peer d 1) (fun d => back d 1) (fun d => peer_back d 1) (fun d => back_peer d 1) () Nq c) $$ H
  isplitl [B0 B1 B2]
  · rw [show (tallyAt (barCell c) () 3 : CellTallies nD τ sig Unit) = tallyAt (barCell c) () 1 + (tallyAt (barCell c) () 1 + tallyAt (barCell c) () 1) by
      rw [tallyAt_add, tallyAt_add]]
    iapply (cred_add _ _).2
    isplitl [B0]; · iexact B0
    iapply (cred_add _ _).2
    isplitl [B1]; · iexact B1
    iexact B2
  isplitl [T0 T1 T2]
  · isplitl [T0]; · iexact T0
    isplitl [T1]; · iexact T1
    iexact T2
  isplitl [S0]; · iexact S0
  isplitl [S1]; · iexact S1
  iexact S2

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp 𝕄) := by
  iintro ⟨Hw, Hlev, Hcr, -, HG⟩
  ihave Hcr := (creds (F := F) c) $$ Hcr
  ihave Hw := (show (Pipeline.unscopedRestP Pipeline.Prefetch.none cfg0.spec c (fun b => m ((c : Thread nD τ).loc b)) : sProp 𝕄) ⊢ wpts m c fullShare from by
    rw [Pipeline.unscopedRestP_none]
    exact Entails.of_eq (unscopedRest0_eq c _)) $$ Hw
  imodintro
  unfold start G'
  icases HG with ⟨HK, Hws⟩
  isplitl
  · iframe HK Hws Hcr Hlev Hw
  iempintro

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ scratch
  iintro ⟨Hs, -, H0, H1, H2, H3, H4⟩
  iframe Hs
  isplitl [H0]; · iapply (any_of_pts c cc0_scratch0) $$ H0
  isplitl [H1]; · iapply (any_of_pts c cc0_scratch1) $$ H1
  isplitl [H2]; · iapply (any_of_pts c cc0_scratch2) $$ H2
  isplitl [H3]; · iapply (any_of_pts c cc0_scratch3) $$ H3
  iapply (any_of_pts c cc0_scratch4) $$ H4

/-- What a device leaves: the barrier cell at zero, `w` as it was. -/
def left (c : Dev nD) : sProp 𝕄 := iprop(unscopedSems0 c ∗ wpts m c fullShare)

theorem last_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = after₀ m c from rfl, scopedRest0_eq]
  unfold after₀ scratch left
  iintro ⟨Hx, Hws, Hw, H0, H1, H2, H3, H4⟩
  ihave Hz := (sems_join c) $$ [Hx Hws]
  · iframe Hx Hws
  icases Hz with ⟨Hu, Ho⟩
  iframe Hu Hw Ho
  isplitl [H0]; · iapply (pts_of_any c cc0_scratch0) $$ H0
  isplitl [H1]; · iapply (pts_of_any c cc0_scratch1) $$ H1
  isplitl [H2]; · iapply (pts_of_any c cc0_scratch2) $$ H2
  isplitl [H3]; · iapply (pts_of_any c cc0_scratch3) $$ H3
  iapply (pts_of_any c cc0_scratch4) $$ H4

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What holds of device `c` at the end beside its windows' arrays. -/
def leftQ (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem left_read (c : Dev nD) (s' : Phys nD τ sig (Elt F)) : iprop(left m c ∗ emp ∗ SI s') ⊢ (|={Set.univ}=> iprop(⌜leftQ m c s'.mem⌝ ∗ SI s') : sProp 𝕄) := by
  unfold left
  iintro ⟨⟨Hu, Hw⟩, -, HSI⟩
  ihave H := (pointsTo_read_all ({()} : Finset Unit) (fun _ => (c : Thread nD τ).loc main_arg1) (fun _ => wbuf m c) s') $$ [Hw HSI]
  · isplitl [Hw]
    · rw [bigSep_singleton]; iexact Hw
    iexact HSI
  icases H with ⟨%hw, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hw () (Finset.mem_singleton_self _)⟩
  iexact HSI

/-- A window's array at the end. -/
def finalA (c : Dev nD) (w : Fin cfg0.W) : Buf (Elt F) ((cfg0.win w).arr.view.loc (c : Thread nD τ)) := (dats m ρ 0 c).arrAt w cfg0.N

/-- The windows' arrays at the end, and `w`. -/
def Ends (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = m ((c : Thread nD τ).loc main_arg1)

set_option maxRecDepth 8000 in
/-- For any float values, from any memory with zero counters: every fair execution of the program ends, with the arrays
    as stated and every semaphore counter at zero. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0)
    (hshare := share_full m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_parts _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := left m) (Z := fun _ => iprop(emp))
    (hX := start_intro m ρ) (hin := first_intro m ρ) (hout := last_exit m ρ)
    (QY := leftQ m) (hY := left_read m)
    (hQ := fun _ h hs => ⟨fun c => ⟨(h c).1, (h c).2.2.2⟩, sem_eq_zero hs fun c => (h c).2.2.1⟩)

/-- The array of `x` at the end is as it was. -/
theorem finalA_x (c : Dev nD) : finalA m ρ c (0 : Fin 2) = m ((c : Thread nD τ).loc main_arg0) :=
  (dats (F := F) m ρ 0 c).arrAt_in (0 : Fin 2) rfl _

end Cert.Exchange

end
-- ==== Proof.Frames.lean ====
/-
The frames: each program ends with its arguments as they were and every counter at zero.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-- The run, read at the arguments. -/
theorem run_args (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 2)).trans (finalA_x m ρ c), (h.1 c).2⟩, h.2⟩) (run_main m ρ)

/-- The program as printed and the program read over the extended reals run the same bodies. -/
theorem bodies_eq : (Cert.Kernel.defs₀ (F := F) : Defs nD τ sig (Elt F) Λ₀) = defs₀ := by
  unfold Cert.Kernel.defs₀ defs₀
  refine congrArg (Defs.onTc (nD := nD) (τ := τ) (sig := sig) (Val := Elt F) (Λ := Λ₀)) (funext fun l => funext fun x => ?_)
  match l, x with
  | 0, (t, s) => rfl
  | ⟨n + 1, h⟩, _ => exact absurd h (Nat.not_lt.2 (Nat.le_add_left _ _))
theorem defs_eq : Cert.Kernel.defs (F := F) = defs (F := F) := congrArg (Pipeline.defs (pcfgs (F := F))) bodies_eq

theorem frame_kernel : Cert.quiescent_Kernel := fun m ρ _ => by
  have h := run_args (F := Bits) m ρ
  rw [← defs_eq] at h
  exact h

theorem frame_kernel_ideal : Cert.quiescent_KernelIdeal := fun m ρ _ => run_args (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Exchange

end
-- ==== Proof.Quant.lean ====
/-
A tile's scale, and one entry put through the quantiser and back, over the extended reals.

The scale is the largest magnitude in the tile, at least a small positive floor. An entry times `127 / scale` lies in
`[-127, 127]`, so its nearest whole number fits a signed byte: storing it as one and reading it back changes nothing,
and neither does a clip to that range.
-/
module

public import Idealize.ShloMosaic.PureOps.Ideal
public import Idealize.ShloMosaic.Lib.Pointwise

@[expose] public section

noncomputable section

namespace Cert.Exchange

open Idealize.ShloMosaic

/-! ## The constants -/

/-- The word of 127, -/
theorem bits_127 : Ideal.ofBits .f32 0x42FE0000#32 = ((127 : ℝ) : EReal) := by
  simp [Ideal.ofBits, Ideal.ieee, -EReal.coe_mul]; norm_num
/-- of -127, -/
theorem bits_neg_127 : Ideal.ofBits .f32 0xC2FE0000#32 = ((-127 : ℝ) : EReal) := by
  simp [Ideal.ofBits, Ideal.ieee, -EReal.coe_mul, -EReal.coe_neg]; norm_num
/-- of minus infinity, -/
theorem bits_bot : Ideal.ofBits .f32 0xFF800000#32 = ⊥ := by
  simp [Ideal.ofBits, Ideal.ieee]
/-- and of the floor, which is positive. -/
theorem bits_floor_pos : (0 : EReal) < Ideal.ofBits .f32 0x0DA24260#32 := by
  simp [Ideal.ofBits, Ideal.ieee, -EReal.coe_mul]

/-- A number's nearest whole number stays in a range with whole ends. -/
theorem nearest_mem {v : ℝ} (h1 : -127 ≤ v) (h2 : v ≤ 127) : -127 ≤ Ideal.roundHalfEven v ∧ Ideal.roundHalfEven v ≤ 127 := by
  have f1 : (-127 : ℤ) ≤ ⌊v⌋ := Int.le_floor.2 (by simpa using h1)
  have f2 : ⌊v⌋ ≤ (127 : ℤ) := by
    have : ⌊v⌋ ≤ ⌊(127 : ℝ)⌋ := Int.floor_mono h2
    simpa using this
  have f3 : ⌊v⌋ = 127 → v - ⌊v⌋ ≤ 0 := fun h => by rw [h]; push_cast; linarith
  unfold Ideal.roundHalfEven
  constructor
  · dsimp only
    split_ifs <;> omega
  · dsimp only
    by_cases e : ⌊v⌋ = 127
    · have h := f3 e
      rw [if_pos (lt_of_le_of_lt h (by norm_num))]; exact f2
    · split_ifs <;> omega

/-- A whole number in the range, stored as a signed byte and read back. -/
theorem byte_back {n : ℤ} (h1 : -127 ≤ n) (h2 : n ≤ 127) :
    (FloatOps.sitofp (F := Ideal) .f32 (Ideal.fptosi 8 ((n : ℝ) : EReal)) : EReal) = ((n : ℝ) : EReal) := by
  have hc : Ideal.fptosi 8 ((n : ℝ) : EReal) = BitVec.ofInt 8 n := by
    unfold Ideal.fptosi
    rw [Ideal.toIntClamped_coe]
    congr 1
    have : (if (0 : ℝ) ≤ (n : ℝ) then ⌊(n : ℝ)⌋ else ⌈(n : ℝ)⌉) = n := by split <;> simp
    rw [this]
    norm_num
    omega
  rw [hc]
  show (((BitVec.ofInt 8 n).toInt : ℝ) : EReal) = _
  have : (BitVec.ofInt 8 n).toInt = n := by
    rw [BitVec.toInt_ofInt]
    exact Int.bmod_eq_of_le (by norm_num; omega) (by norm_num; omega)
  rw [this]

/-- An entry no larger in magnitude than the positive scale, times `127 / scale`, is a number in `[-127, 127]`. -/
theorem scaled_mem {x A : EReal} (hA : 0 < A) (hx : max x (-x) ≤ A) :
    ∃ v : ℝ, x * Ideal.div (Ideal.ofBits .f32 0x42FE0000#32) A = (v : EReal) ∧ -127 ≤ v ∧ v ≤ 127 := by
  have hd : Ideal.div (Ideal.ofBits .f32 0x42FE0000#32) A = ((127 : ℝ) : EReal) * A⁻¹ := by
    rw [bits_127]; unfold Ideal.div; rw [if_neg hA.ne']
  rw [hd]
  induction A with
  | bot => exact absurd hA (by simp)
  | top => exact ⟨0, by simp, by norm_num, by norm_num⟩
  | coe a =>
    have ha : 0 < a := by exact_mod_cast hA
    have hxa : x ≤ a := le_trans (le_max_left _ _) hx
    have hna : -x ≤ a := le_trans (le_max_right _ _) hx
    induction x with
    | bot => exact absurd hna (by simp)
    | top => exact absurd hxa (by simp)
    | coe x =>
      have h1 : x ≤ a := by exact_mod_cast hxa
      have h2 : -x ≤ a := by exact_mod_cast hna
      refine ⟨x * (127 * a⁻¹), by rw [← EReal.coe_inv]; norm_cast, ?_, ?_⟩
      · have : x * (127 * a⁻¹) = 127 * (x / a) := by field_simp
        rw [this]
        have : -1 ≤ x / a := by rw [le_div_iff₀ ha]; linarith
        linarith
      · have : x * (127 * a⁻¹) = 127 * (x / a) := by field_simp
        rw [this]
        have : x / a ≤ 1 := by rw [div_le_one ha]; exact h1
        linarith

/-- The byte read back is the clipped nearest whole number. -/
theorem byte_eq_clip {x A : EReal} (hA : 0 < A) (hx : max x (-x) ≤ A) :
    (FloatOps.sitofp (F := Ideal) .f32 (Ideal.fptosi 8 (Ideal.liftRound Ideal.roundHalfEven
        (x * Ideal.div (Ideal.ofBits .f32 0x42FE0000#32) A))) : EReal)
      = min (Ideal.ofBits .f32 0x42FE0000#32) (max (Ideal.ofBits .f32 0xC2FE0000#32)
          (Ideal.liftRound Ideal.roundHalfEven (x * Ideal.div (Ideal.ofBits .f32 0x42FE0000#32) A))) := by
  obtain ⟨v, hv, h1, h2⟩ := scaled_mem hA hx
  rw [hv, Ideal.liftRound_coe]
  obtain ⟨r1, r2⟩ := nearest_mem h1 h2
  rw [byte_back r1 r2, bits_127, bits_neg_127, max_eq_right, min_eq_right]
  · exact_mod_cast r2
  · exact_mod_cast r1

/-! ## A tile -/

/-- A tile's scale, times 127: its largest magnitude, at least the floor. -/
def tileMax (f : Fin 512 → Fin 512 → EReal) : EReal :=
  max (Finset.fold max (Ideal.ofBits .f32 0xFF800000#32) (fun p : Fin 512 × Fin 512 => max (f p.1 p.2) (-(f p.1 p.2))) Finset.univ)
    (Ideal.ofBits .f32 0x0DA24260#32)

/-- The scale is positive; -/
theorem tileMax_pos (f : Fin 512 → Fin 512 → EReal) : 0 < tileMax f := lt_of_lt_of_le bits_floor_pos (le_max_right _ _)
/-- no entry is larger in magnitude. -/
theorem le_tileMax (f : Fin 512 → Fin 512 → EReal) (r k : Fin 512) : max (f r k) (-(f r k)) ≤ tileMax f :=
  le_trans ((Finset.le_fold_max _).2 (Or.inr ⟨(r, k), Finset.mem_univ _, le_rfl⟩)) (le_max_left _ _)

/-- An entry of a tile after the quantiser and back. -/
def deq (f : Fin 512 → Fin 512 → EReal) (r k : Fin 512) : EReal :=
  FloatOps.sitofp (F := Ideal) .f32 (Ideal.fptosi 8 (Ideal.liftRound Ideal.roundHalfEven
      (f r k * Ideal.div (Ideal.ofBits .f32 0x42FE0000#32) (tileMax f))))
    * Ideal.div (tileMax f) (Ideal.ofBits .f32 0x42FE0000#32)

/-- The byte may be replaced by the clipped whole number. -/
theorem deq_eq_clip (f : Fin 512 → Fin 512 → EReal) (r k : Fin 512) :
    deq f r k = min (Ideal.ofBits .f32 0x42FE0000#32) (max (Ideal.ofBits .f32 0xC2FE0000#32)
          (Ideal.liftRound Ideal.roundHalfEven (f r k * Ideal.div (Ideal.ofBits .f32 0x42FE0000#32) (tileMax f))))
      * Ideal.div (tileMax f) (Ideal.ofBits .f32 0x42FE0000#32) := by
  unfold deq
  rw [byte_eq_clip (tileMax_pos f) (le_tileMax f r k)]

end Cert.Exchange

end
-- ==== Proof.Seen.lean ====
/-
The tiles of the input and what each adds to an output.

Tile `(I, J)` of `X` is the part of device `J`'s columns in the rows of device `I`; it reaches device `I` through the
quantiser unless `I = J`.
-/
module

public import proofs.«01_k».proof.Proof.Quant

@[expose] public section

noncomputable section

namespace Cert.Exchange

open Idealize.ShloMosaic

/-- Position `r` of block `I`. -/
def at512 (I : Fin 4) (r : Fin 512) : Fin 2048 := ⟨I.val * 512 + r.val, by omega⟩

/-- Tile `(I, J)`. -/
def tile (X : FVec Ideal ⟨2, ![2048, 2048]⟩ .f32) (I J : Fin 4) (r k : Fin 512) : EReal := X (ix2 (at512 I r) (at512 J k))
/-- Tile `(I, J)` as device `I` uses it. -/
def seen (X : FVec Ideal ⟨2, ![2048, 2048]⟩ .f32) (I J : Fin 4) (r k : Fin 512) : EReal :=
  if I = J then tile X I J r k else deq (tile X I J) r k
/-- What tile `(I, J)` adds to an output. -/
def part (X W : FVec Ideal ⟨2, ![2048, 2048]⟩ .f32) (I : Fin 4) (r : Fin 512) (n : Fin 2048) (J : Fin 4) : EReal :=
  ∑ k : Fin 512, seen X I J r k * W (ix2 (at512 J k) n)

/-- The last step: the tanh form of the gelu, as the kernel groups it. -/
abbrev gelu (y : EReal) : EReal :=
  Ideal.ofBits .f32 0x3F000000#32 * y
    * (1 + Ideal.tanh (Ideal.ofBits .f32 0x3F4C422A#32 * (y + Ideal.ofBits .f32 0x3D372713#32 * y * y * y)))

end Cert.Exchange

end
-- ==== Proof.Blocks.lean ====
/-
What one block of the kernel computes, at an index: a tile's scale and bytes, the four products that are added, and
the last step.
-/
module

public import proofs.«01_k».proof.Proof.Seen
public import proofs.«01_k».proof.Proof.Gen.KernelIdeal.Skeleton
public import Idealize.ShloMosaic.Lib.Pointwise

@[expose] public section

set_option maxRecDepth 16384

noncomputable section

namespace Cert.Exchange

open Cert.KernelIdeal Cert.KernelIdeal.Gen
open Idealize.ShloMosaic

/-- A received tile of bytes `X` with scale `s`, times rows of `w`, added to `b`. -/
abbrev add8 (b : EReal) (X : IVec S1x512x512 8) (s : EReal) (w : FVec Ideal S1x512x1024 .f32) (r : Fin 512) (k : Fin 1024) : EReal :=
  b + ∑ x : Fin 512, FloatOps.sitofp (F := Ideal) .f32 (X (ix3 0 r x)) * s * w (ix3 0 x k)

/-! ## The quantiser -/

/-- The tile as the quantiser takes it is the tile. -/
theorem pay6_self (X : Vec Ideal S512x512 .f32) : k0_pay6 X = X := shapeCast_id _ _
/-- One entry scaled, rounded and stored as a byte. -/
theorem quant_at (Y : FVec Ideal S512x512 .f32) (a : Ideal .f32) (j : S512x512.Idx) :
    fptosi 8 (roundeven (mulf Y (broadcast S512x512 (Scalar.divf (Scalar.ofBits .f32 0x42FE0000#32) a)))) j
      = Ideal.fptosi 8 (Ideal.liftRound Ideal.roundHalfEven (Y j * Ideal.div (Ideal.ofBits FTy.f32 1123942400#32) a)) := rfl
/-- A byte of the quantised tile. -/
theorem pay9_at (X : Vec Ideal S512x512 .f32) (j : S512x512.Idx) :
    k0_pay9 X j = Ideal.fptosi 8 (Ideal.liftRound Ideal.roundHalfEven (X j * Ideal.div (Ideal.ofBits FTy.f32 1123942400#32) (k0_pay7 X))) := by
  have h : k0_pay9 X = fptosi 8 (roundeven (mulf X (broadcast S512x512 (Scalar.divf (Scalar.ofBits .f32 0x42FE0000#32) (k0_pay7 X))))) := by
    have e : k0_pay9 X = shapeCast S512x512 (fptosi 8 (roundeven (mulf (k0_pay6 X) (broadcast S512x512 (Scalar.divf (Scalar.ofBits .f32 0x42FE0000#32) (k0_pay7 X)))))) shapeCasts_S512x512_S512x512 := rfl
    rw [e, shapeCast_id, pay6_self]
  rw [h]
  exact quant_at X (k0_pay7 X) j
/-- The tile's largest magnitude, at least the floor, as a fold over its entries. -/
theorem pay7_fold (X : Vec Ideal S512x512 .f32) : k0_pay7 X
    = max (Finset.fold max (Ideal.ofBits FTy.f32 4286578688#32) (fun x : Fin 512 × Fin 512 => (FloatOps.absf (F := Ideal) (φ := .f32) (X (ix2 x.1 x.2)) : EReal)) Finset.univ)
      (Ideal.ofBits FTy.f32 228737632#32) := by
  pointwise [k0_pay7, k0_pay6]

/-- The tile's largest magnitude, at least the floor. -/
theorem pay7_at (X : Vec Ideal S512x512 .f32) : k0_pay7 X = tileMax (fun r k => X (ix2 r k)) := pay7_fold X

/-- A byte times the scale is the entry put through the quantiser and back. -/
theorem pay9_scale (X : Vec Ideal S512x512 .f32) (r k : Fin 512) :
    (FloatOps.sitofp (F := Ideal) .f32 (k0_pay9 X (ix2 r k)) : EReal) * Scalar.divf (k0_pay7 X) (Scalar.ofBits .f32 0x42FE0000#32)
      = deq (fun r k => X (ix2 r k)) r k := by
  rw [pay9_at, pay7_at]
  rfl

/-! ## The products and the last step -/

/-- The own tile times the left half of its rows of `w`, -/
theorem pay16_at (X : FVec Ideal S512x512 .f32) (w : FVec Ideal S1x512x1024 .f32) (r : Fin 512) (k : Fin 1024) :
    k0_pay16 X w (ix2 r k) = ∑ x : Fin 512, X (ix2 r x) * w (ix3 0 x k) := by
  pointwise [k0_pay16, k0_pay15]
/-- times the right half. -/
theorem pay17_at (X : FVec Ideal S512x512 .f32) (w : FVec Ideal S1x512x1024 .f32) (r : Fin 512) (k : Fin 1024) :
    k0_pay17 X w (ix2 r k) = ∑ x : Fin 512, X (ix2 r x) * w (ix3 0 x k) := by
  pointwise [k0_pay17, k0_pay15]
/-- The tile in slot 0 added to the left half, -/
theorem pay19_at (b : FVec Ideal S512x1024 .f32) (X : IVec S1x512x512 8) (s : FVec Ideal S1x1x1 .f32) (w : FVec Ideal S1x512x1024 .f32) (r : Fin 512) (k : Fin 1024) :
    k0_pay19 b X s w (ix2 r k) = add8 (b (ix2 r k)) X (s (ix3 0 0 0)) w r k := by
  pointwise [k0_pay19, k0_pay18]
/-- to the right half. -/
theorem pay20_at (b : FVec Ideal S512x1024 .f32) (X : IVec S1x512x512 8) (s : FVec Ideal S1x1x1 .f32) (w : FVec Ideal S1x512x1024 .f32) (r : Fin 512) (k : Fin 1024) :
    k0_pay20 b X s w (ix2 r k) = add8 (b (ix2 r k)) X (s (ix3 0 0 0)) w r k := by
  pointwise [k0_pay20, k0_pay18]
/-- The tile in slot 2 added to the left half, -/
theorem pay22_at (b : FVec Ideal S512x1024 .f32) (X : IVec S1x512x512 8) (s : FVec Ideal S1x1x1 .f32) (w : FVec Ideal S1x512x1024 .f32) (r : Fin 512) (k : Fin 1024) :
    k0_pay22 b X s w (ix2 r k) = add8 (b (ix2 r k)) X (s (ix3 0 0 0)) w r k := by
  pointwise [k0_pay22, k0_pay21]
/-- to the right half. -/
theorem pay23_at (b : FVec Ideal S512x1024 .f32) (X : IVec S1x512x512 8) (s : FVec Ideal S1x1x1 .f32) (w : FVec Ideal S1x512x1024 .f32) (r : Fin 512) (k : Fin 1024) :
    k0_pay23 b (k0_pay21 X s) w (ix2 r k) = add8 (b (ix2 r k)) X (s (ix3 0 0 0)) w r k := by
  pointwise [k0_pay23, k0_pay21]
/-- The tile in slot 1 added to the left half, and the last step, -/
theorem pay25_at (b : FVec Ideal S512x1024 .f32) (X : IVec S1x512x512 8) (s : FVec Ideal S1x1x1 .f32) (w : FVec Ideal S1x512x1024 .f32) (r : Fin 512) (k : Fin 1024) :
    k0_pay25 b X s w (ix2 r k) = gelu (add8 (b (ix2 r k)) X (s (ix3 0 0 0)) w r k) := by
  pointwise [k0_pay25, k0_pay24]
/-- and the same of the right half. -/
theorem pay29_at (b : FVec Ideal S512x1024 .f32) (X : IVec S1x512x512 8) (s : FVec Ideal S1x1x1 .f32) (w : FVec Ideal S1x512x1024 .f32) (r : Fin 512) (k : Fin 1024) :
    k0_pay29 (k0_pay26 b X s w) (k0_pay27 b X s w) (k0_pay28 (F := Ideal)) (ix2 r k) = gelu (add8 (b (ix2 r k)) X (s (ix3 0 0 0)) w r k) := by
  pointwise [k0_pay29, k0_pay28, k0_pay27, k0_pay26, k0_pay24]

end Cert.Exchange

end
-- ==== Proof.Tiles.lean ====
/-
The kernel's output on a device, in terms of the whole arrays.

`X` and `W` are the whole arrays; device `c` holds columns `512 c .. 512 c + 511` of `X` and all of `W`.
-/
module

public import proofs.«01_k».proof.Proof.Blocks
public import proofs.«01_k».proof.Proof.Contents
public import Idealize.ShloMosaic.Lib.LayoutAt

@[expose] public section

set_option maxRecDepth 16384

noncomputable section

namespace Cert.Exchange

open Cert.KernelIdeal Cert.KernelIdeal.Gen
open Idealize.ShloMosaic
open Idealize.ShloMosaic.TcCoe

/-- Two spellings of an index. -/
theorem ix2_at (a b : ℕ) (i : Fin a) (j : Fin b) : (ValueIdx.ix2 i j : (⟨2, ![a, b]⟩ : Shape).Idx) = ix2 i j := by
  funext t; fin_cases t <;> rfl

section Device
variable (m : (ℓ : Loc nD τ sig) → Buf (Elt Ideal) ℓ) (ρ : Dev nD → PrngReg) (X W : FVec Ideal S2048x2048 .f32)

/-- A device's staged columns of `X`. -/
theorem xstg_at (c : Dev nD) (hX : m ((c : Thread nD τ).loc main_arg0) = Layout.block S2048x512 S2048x2048 1 4 c X) (R : Fin 2048) (k : Fin 512) :
    xstg m ρ c (ix2 R k) = X (ix2 R (at512 c k)) := by
  have h1 : xstg m ρ c = m ((c : Thread nD τ).loc main_arg0) :=
    Memref.read_access_unit_zero (Elt Ideal) main_arg0 (by funext a; fin_cases a <;> rfl) _ _
  rw [h1, hX, Layout.block_apply]
  congr 1
  funext a
  fin_cases a
  · refine Fin.ext ?_
    exact Layout.Tiles.idx_val_of_ne (S := S2048x512) (T := S2048x2048) (a := 1) (k := 4) (by decide) c (ix2 R k) 0 (by decide)
  · refine Fin.ext ?_
    exact Layout.Tiles.idx_val_self (S := S2048x512) (T := S2048x2048) (a := 1) (k := 4) (by decide) c (ix2 R k) 1 (by decide)

/-- A block of rows of the staged columns is a tile. -/
theorem read_rows (c : Dev nD) (I : Fin 4) {o : Fin 2 → ℕ} (ho : o = ![512 * I.val, 0]) (hi : ∀ a, o a + S512x512.size a ≤ S2048x512.size a)
    (hX : m ((c : Thread nD τ).loc main_arg0) = Layout.block S2048x512 S2048x2048 1 4 c X) (r k : Fin 512) :
    xM.view.readAt (Elt Ideal) (Rect.unit (s := S2048x512) o S512x512.size hi).toLoadRect (xstg m ρ c) (ix2 r k) = tile X I c r k := by
  refine Eq.trans ?_ (xstg_at m ρ X c hX (at512 I r) k)
  show xstg m ρ c ((Rect.unit (s := S2048x512) o S512x512.size hi).emb (ix2 r k)) = _
  congr 1
  subst ho
  funext a
  fin_cases a
  · refine Fin.ext ?_
    rw [Rect.emb_apply]
    show 512 * I.val + 1 * r.val = I.val * 512 + r.val
    omega
  · refine Fin.ext ?_
    rw [Rect.emb_apply]
    show 0 + 1 * k.val = k.val
    omega

/-- The own tile; -/
theorem xown_at (c : Dev nD) (hX : m ((c : Thread nD τ).loc main_arg0) = Layout.block S2048x512 S2048x2048 1 4 c X) (r k : Fin 512) :
    xown m ρ c (ix2 r k) = tile X c c r k := read_rows m ρ X c c (k0_off6_eq c) _ hX r k
/-- the tile for the device that slot `s` of the sends addresses. -/
theorem xtile_at (c I : Dev nD) (s : Fin 3) (hI : I.val = (c.val + s.val + 1) % 4)
    (hX : m ((c : Thread nD τ).loc main_arg0) = Layout.block S2048x512 S2048x2048 1 4 c X) (r k : Fin 512) :
    xtile m ρ c s (ix2 r k) = tile X I c r k := read_rows m ρ X c I ((k0_off4_eq c s).trans (by rw [hI])) _ hX r k

/-! ## The rows of `w` -/

/-- A buffer of one slot read without its slot number: a half, -/
theorem unsq_half {V : Type} (Y : S512x1024.Idx → V) (x : Fin 512) (k : Fin 1024) :
    unsq squeezes_S1x512x1024_S512x1024 Y (ix3 0 x k) = Y (ix2 x k) := by
  have h : unsq squeezes_S1x512x1024_S512x1024 Y = shapeCast S1x512x1024 Y squeezes_S1x512x1024_S512x1024.numel_eq.symm := rfl
  rw [h]
  pointwise []
/-- a whole slot, -/
theorem unsq_slot {V : Type} (Y : S512x2048.Idx → V) (x : Fin 512) (k : Fin 2048) :
    unsq squeezes_S1x512x2048_S512x2048 Y (ix3 0 x k) = Y (ix2 x k) := by
  have h : unsq squeezes_S1x512x2048_S512x2048 Y = shapeCast S1x512x2048 Y squeezes_S1x512x2048_S512x2048.numel_eq.symm := rfl
  rw [h]
  pointwise []
/-- a tile of bytes. -/
theorem unsq_tile {V : Type} (Y : S512x512.Idx → V) (x k : Fin 512) :
    unsq squeezes_S1x512x512_S512x512 Y (ix3 0 x k) = Y (ix2 x k) := by
  have h : unsq squeezes_S1x512x512_S512x512 Y = shapeCast S1x512x512 Y squeezes_S1x512x512_S512x512.numel_eq.symm := rfl
  rw [h]
  pointwise []

/-- Column `k` of the left half, of the right half. -/
def colL (k : Fin 1024) : Fin 2048 := ⟨k.val, by omega⟩
def colR (k : Fin 1024) : Fin 2048 := ⟨1024 + k.val, by omega⟩

/-- Where a half of a block of rows of `w` lies in `w`; -/
theorem emb_half {o : Fin 2 → ℕ} (J : Fin 4) (d : ℕ) (ho : o = ![512 * J.val, d]) (hi : ∀ a, o a + S512x1024.size a ≤ S2048x2048.size a)
    (x : Fin 512) (k : Fin 1024) (n : Fin 2048) (hn : n.val = d + k.val) :
    (Rect.unit (s := S2048x2048) o S512x1024.size hi).emb (ix2 x k) = ix2 (at512 J x) n := by
  subst ho
  funext a
  fin_cases a
  · refine Fin.ext ?_
    rw [Rect.emb_apply]
    show 512 * J.val + 1 * x.val = J.val * 512 + x.val
    omega
  · refine Fin.ext ?_
    rw [Rect.emb_apply]
    show d + 1 * k.val = n.val
    omega
/-- where the whole block of rows lies. -/
theorem emb_slot {o : Fin 2 → ℕ} (J : Fin 4) (ho : o = ![512 * J.val, 0]) (hi : ∀ a, o a + S512x2048.size a ≤ S2048x2048.size a)
    (x : Fin 512) (n : Fin 2048) :
    (Rect.unit (s := S2048x2048) o S512x2048.size hi).emb (ix2 x n) = ix2 (at512 J x) n := by
  subst ho
  funext a
  fin_cases a
  · refine Fin.ext ?_
    rw [Rect.emb_apply]
    show 512 * J.val + 1 * x.val = J.val * 512 + x.val
    omega
  · refine Fin.ext ?_
    rw [Rect.emb_apply]
    show 0 + 1 * n.val = n.val
    omega

/-- The rows for the own tile, left half, -/
theorem wA_at (c : Dev nD) (hW : m ((c : Thread nD τ).loc main_arg1) = W) (x : Fin 512) (k : Fin 1024) :
    wA m c (ix3 0 x k) = W (ix2 (at512 c x) (colL k)) := by
  unfold wA
  rw [unsq_half, ← emb_half c 0 (k0_off1_eq c) (k0_off1_inb c) x k (colL k) (by simp [colL]), ← hW]
  rfl
/-- right half. -/
theorem wB_at (c : Dev nD) (hW : m ((c : Thread nD τ).loc main_arg1) = W) (x : Fin 512) (k : Fin 1024) :
    wB m c (ix3 0 x k) = W (ix2 (at512 c x) (colR k)) := by
  unfold wB
  rw [unsq_half, ← emb_half c 1024 (k0_off2_eq c) (k0_off2_inb c) x k (colR k) (by simp [colR]), ← hW]
  rfl
/-- The rows for a received tile, -/
theorem wsl_at (c J : Dev nD) (r : Fin 3) (hJ : J.val = (c.val + r.val + 1) % 4) (hW : m ((c : Thread nD τ).loc main_arg1) = W)
    (x : Fin 512) (n : Fin 2048) : wsl m c r (ix3 0 x n) = W (ix2 (at512 J x) n) := by
  unfold wsl
  rw [unsq_slot, ← emb_slot J ((k0_off3_eq c r).trans (by rw [hJ])) (k0_off3_inb c r) x n, ← hW]
  rfl
/-- left half, -/
theorem wlo_at (c J : Dev nD) (r : Fin 3) (hJ : J.val = (c.val + r.val + 1) % 4) (hW : m ((c : Thread nD τ).loc main_arg1) = W)
    (x : Fin 512) (k : Fin 1024) : wlo m c r (ix3 0 x k) = W (ix2 (at512 J x) (colL k)) := by
  refine Eq.trans ?_ (wsl_at m W c J r hJ hW x (colL k))
  show wsl m c r (lo (ix3 0 x k)) = _
  congr 1
/-- right half. -/
theorem whi_at (c J : Dev nD) (r : Fin 3) (hJ : J.val = (c.val + r.val + 1) % 4) (hW : m ((c : Thread nD τ).loc main_arg1) = W)
    (x : Fin 512) (k : Fin 1024) : whi m c r (ix3 0 x k) = W (ix2 (at512 J x) (colR k)) := by
  refine Eq.trans ?_ (wsl_at m W c J r hJ hW x (colR k))
  show wsl m c r (hi (ix3 0 x k)) = _
  congr 1

/-! ## What a received tile adds -/

/-- The tile received in slot `s`, read back with its scale. -/
theorem recv_at (c : Dev nD) (s : Fin 3) (hX : ∀ c : Dev nD, m ((c : Thread nD τ).loc main_arg0) = Layout.block S2048x512 S2048x2048 1 4 c X)
    (r k : Fin 512) :
    (FloatOps.sitofp (F := Ideal) .f32 (rq m ρ c s (ix3 0 r k)) : EReal) * rs m ρ c s (ix3 0 0 0) = seen X c (back c s) r k := by
  have hne : c ≠ back c s := by revert c s; decide
  have hb : c.val = ((back c s).val + s.val + 1) % 4 := by revert c s; decide
  have ht : (fun r k => xtile m ρ (back c s) s (ix2 r k)) = tile X c (back c s) :=
    funext fun r => funext fun k => xtile_at m ρ X (back c s) c s hb (hX _) r k
  unfold seen
  rw [if_neg hne, ← ht, ← pay9_scale]
  unfold rq
  rw [unsq_tile]
  rfl

/-- The own tile's product. -/
theorem own_add (c : Dev nD) (hX : ∀ c : Dev nD, m ((c : Thread nD τ).loc main_arg0) = Layout.block S2048x512 S2048x2048 1 4 c X)
    (w : FVec Ideal S1x512x1024 .f32) (n : Fin 2048) (r : Fin 512) (k : Fin 1024) (hw : ∀ x, w (ix3 0 x k) = W (ix2 (at512 c x) n)) :
    (∑ x : Fin 512, xown m ρ c (ix2 r x) * w (ix3 0 x k) : EReal) = part X W c r n c := by
  refine Finset.sum_congr rfl fun x _ => ?_
  rw [hw x, xown_at m ρ X c (hX c)]
  unfold seen
  rw [if_pos rfl]

/-- A received tile's product, added. -/
theorem recv_add (c : Dev nD) (s : Fin 3) (hX : ∀ c : Dev nD, m ((c : Thread nD τ).loc main_arg0) = Layout.block S2048x512 S2048x2048 1 4 c X)
    (w : FVec Ideal S1x512x1024 .f32) (b : EReal) (n : Fin 2048) (r : Fin 512) (k : Fin 1024) (hw : ∀ x, w (ix3 0 x k) = W (ix2 (at512 (back c s) x) n)) :
    add8 b (rq m ρ c s) (rs m ρ c s (ix3 0 0 0)) w r k = b + part X W c r n (back c s) := by
  refine congrArg (b + ·) (Finset.sum_congr rfl fun x _ => ?_)
  rw [hw x, recv_at m ρ X c s hX]

/-! ## The output -/

/-- The rows of `w` that meet slot 0, -/
theorem back_0 : ∀ c : Dev nD, (back c 0).val = (c.val + (2 : Fin 3).val + 1) % 4 := by decide
/-- slot 2, -/
theorem back_2 : ∀ c : Dev nD, (back c 2).val = (c.val + (0 : Fin 3).val + 1) % 4 := by decide
/-- and slot 1. -/
theorem back_1 : ∀ c : Dev nD, (back c 1).val = (c.val + (1 : Fin 3).val + 1) % 4 := by decide

/-- The four products, in the order the kernel adds them. -/
def total (c : Dev nD) (r : Fin 512) (n : Fin 2048) : EReal :=
  part X W c r n c + part X W c r n (back c 0) + part X W c r n (back c 2) + part X W c r n (back c 1)

/-- The left half of the output, -/
theorem outA_at (c : Dev nD) (hX : ∀ c : Dev nD, m ((c : Thread nD τ).loc main_arg0) = Layout.block S2048x512 S2048x2048 1 4 c X)
    (hW : m ((c : Thread nD τ).loc main_arg1) = W) (r : Fin 512) (k : Fin 1024) :
    outA m ρ c (ix2 r k) = gelu (total X W c r (colL k)) := by
  unfold outA a2 a1 a0 total
  rw [pay25_at, pay22_at, pay19_at, pay16_at,
    own_add m ρ X W c hX (wA m c) (colL k) r k (fun x => wA_at m W c hW x k),
    recv_add m ρ X W c 0 hX (wlo m c 2) _ (colL k) r k (fun x => wlo_at m W c (back c 0) 2 (back_0 c) hW x k),
    recv_add m ρ X W c 2 hX (wlo m c 0) _ (colL k) r k (fun x => wlo_at m W c (back c 2) 0 (back_2 c) hW x k),
    recv_add m ρ X W c 1 hX (wlo m c 1) _ (colL k) r k (fun x => wlo_at m W c (back c 1) 1 (back_1 c) hW x k)]
/-- the right half. -/
theorem outB_at (c : Dev nD) (hX : ∀ c : Dev nD, m ((c : Thread nD τ).loc main_arg0) = Layout.block S2048x512 S2048x2048 1 4 c X)
    (hW : m ((c : Thread nD τ).loc main_arg1) = W) (r : Fin 512) (k : Fin 1024) :
    outB m ρ c (ix2 r k) = gelu (total X W c r (colR k)) := by
  unfold outB b2 b1 b0 total
  rw [pay29_at, pay23_at, pay20_at, pay17_at,
    own_add m ρ X W c hX (wB m c) (colR k) r k (fun x => wB_at m W c hW x k),
    recv_add m ρ X W c 0 hX (whi m c 2) _ (colR k) r k (fun x => whi_at m W c (back c 0) 2 (back_0 c) hW x k),
    recv_add m ρ X W c 2 hX (whi m c 0) _ (colR k) r k (fun x => whi_at m W c (back c 2) 0 (back_2 c) hW x k),
    recv_add m ρ X W c 1 hX (whi m c 1) _ (colR k) r k (fun x => whi_at m W c (back c 1) 1 (back_1 c) hW x k)]

/-- The output window, at any index. -/
theorem outAt_at (c : Dev nD) (hX : ∀ c : Dev nD, m ((c : Thread nD τ).loc main_arg0) = Layout.block S2048x512 S2048x2048 1 4 c X)
    (hW : m ((c : Thread nD τ).loc main_arg1) = W) (r : Fin 512) (n : Fin 2048) :
    outAt m ρ c (ix2 r n) = gelu (total X W c r n) := by
  unfold outAt
  by_cases h : n.val < 1024
  · rw [dif_pos (show ((ix2 r n : S512x2048.Idx) 1 : ℕ) < 1024 from h)]
    exact (congrArg (outA m ρ c) (ix2_at 512 1024 r ⟨n.val, h⟩)).trans (outA_at m ρ X W c hX hW r ⟨n.val, h⟩)
  · rw [dif_neg (show ¬ ((ix2 r n : S512x2048.Idx) 1 : ℕ) < 1024 from h)]
    refine (congrArg (outB m ρ c) (ix2_at 512 1024 r ⟨n.val - 1024, by omega⟩)).trans ?_
    refine (outB_at m ρ X W c hX hW r ⟨n.val - 1024, by omega⟩).trans (congrArg (fun n => gelu (total X W c r n)) (Fin.ext ?_))
    show 1024 + (n.val - 1024) = n.val
    omega

end Device

end Cert.Exchange

end
-- ==== Proof.Reference.lean ====
/-
What the reference computes, at an index.

Its text in stages: the tiles, their scales, the quantiser, the choice of the own tile, the product, the last step.
-/
module

public import proofs.«01_k».proof.Proof.Seen
public import proofs.«01_k».proof.Proof.Gen.ReferenceIdeal.Run
public import Idealize.ShloMosaic.Lib.Pointwise

@[expose] public section

set_option maxRecDepth 16384

noncomputable section

namespace Cert.Exchange

open Cert.ReferenceIdeal Cert.ReferenceIdeal.Gen
open Idealize.ShloMosaic
open Idealize.ShloMosaic.TcCoe

/-- The largest magnitude of each tile, at least the floor. -/
def refAbs (T : FVec Ideal S4x512x4x512 .f32) : FVec Ideal S4x1x4x1 .f32 :=
  maximumf (broadcastInDim S4x1x4x1 ![0, 2] bcast_S4x4_S4x1x4x1_0_2 (Host.reduce FloatOps.maximumf (Host.absf T) (constant S_ .f32 0xFF800000#32) reducesTo_S4x512x4x512_S4x4_d1_3 h_S_)) (broadcastInDim S4x1x4x1 ![] bcast_S_S4x1x4x1 (constant S_ .f32 0x0DA24260#32))

/-- A tile's entries, put through the quantiser and back. -/
def refDeq (T : FVec Ideal S4x512x4x512 .f32) (A : FVec Ideal S4x1x4x1 .f32) : FVec Ideal S4x512x4x512 .f32 :=
  mulf (minimumf (broadcastInDim S4x512x4x512 ![] bcast_S_S4x512x4x512 (id (constant S_ .f32 0x42FE0000#32))) (maximumf (broadcastInDim S4x512x4x512 ![] bcast_S_S4x512x4x512 (id (constant S_ .f32 0xC2FE0000#32))) (Host.roundeven (mulf T (broadcastInDim S4x512x4x512 ![0, 1, 2, 3] bcast_S4x1x4x1_S4x512x4x512_0_1_2_3 (Host.divf (broadcastInDim S4x1x4x1 ![] bcast_S_S4x1x4x1 (constant S_ .f32 0x42FE0000#32)) A)))))) (broadcastInDim S4x512x4x512 ![0, 1, 2, 3] bcast_S4x1x4x1_S4x512x4x512_0_1_2_3 (Host.divf A (broadcastInDim S4x1x4x1 ![] bcast_S_S4x1x4x1 (constant S_ .f32 0x42FE0000#32))))

/-- The tiles after the exchange: a device's own tile is kept, the others went through the quantiser. -/
def refSel (T D : FVec Ideal S4x512x4x512 .f32) : FVec Ideal S4x512x4x512 .f32 :=
  select (broadcastInDim S4x512x4x512 ![0, 1, 2, 3] bcast_S4x1x4x1_S4x512x4x512_0_1_2_3 (broadcastInDim S4x1x4x1 ![0, 2] bcast_S4x4_S4x1x4x1_0_2 (cmpi .eq (broadcastInDim S4x4 ![0, 1] bcast_S4x1_S4x4_0_1 (broadcastInDim S4x1 ![0] bcast_S4_S4x1_0 (iotaInDim S4 32 0))) (broadcastInDim S4x4 ![0, 1] bcast_S1x4_S4x4_0_1 (broadcastInDim S1x4 ![1] bcast_S4_S1x4_1 (iotaInDim S4 32 0)))))) T D

/-- The product. -/
def refDot (X w : FVec Ideal S2048x2048 .f32) : FVec Ideal S2048x2048 .f32 :=
  Host.dotGeneral dot_S2048x2048_S2048x2048_S2048x2048_1_0_0_1_n_n none X w

/-- The epilogue. -/
def refGelu (Y : FVec Ideal S2048x2048 .f32) : FVec Ideal S2048x2048 .f32 :=
  mulf (mulf (broadcastInDim S2048x2048 ![] bcast_S_S2048x2048 (constant S_ .f32 0x3F000000#32)) Y) (addf (broadcastInDim S2048x2048 ![] bcast_S_S2048x2048 (constant S_ .f32 0x3F800000#32)) (Host.tanh (mulf (broadcastInDim S2048x2048 ![] bcast_S_S2048x2048 (constant S_ .f32 0x3F4C422A#32)) (addf Y (mulf (broadcastInDim S2048x2048 ![] bcast_S_S2048x2048 (constant S_ .f32 0x3D372713#32)) (mulf (mulf Y Y) Y))))))

/-- The input as tiles. -/
def refTiles (x : FVec Ideal S2048x2048 .f32) : FVec Ideal S4x512x4x512 .f32 :=
  shapeCast _ x shapeCasts_S2048x2048_S4x512x4x512

/-- The activation after the exchange. -/
def refXq (x : FVec Ideal S2048x2048 .f32) : FVec Ideal S2048x2048 .f32 :=
  shapeCast _ (refSel (refTiles x) (refDeq (refTiles x) (refAbs (refTiles x)))) shapeCasts_S4x512x4x512_S2048x2048

/-- The last step at an index. -/
theorem refGelu_at (Y : FVec Ideal S2048x2048 .f32) (r n : Fin 2048) : refGelu Y (ix2 r n)
   = Ideal.ofBits .f32 0x3F000000#32 * Y (ix2 r n) * (Ideal.ofBits .f32 0x3F800000#32 + Ideal.tanh (Ideal.ofBits .f32 0x3F4C422A#32 * (Y (ix2 r n) + Ideal.ofBits .f32 0x3D372713#32 * (Y (ix2 r n) * Y (ix2 r n) * Y (ix2 r n))))) := by
  rfl

/-- The product at an index. -/
theorem refDot_at (X w : FVec Ideal S2048x2048 .f32) (r n : Fin 2048) : refDot X w (ix2 r n)
   = ∑ k : Fin 2048, X (ix2 r k) * w (ix2 k n) := by
  pointwise [refDot]

/-- An entry of a tile is an entry of the input. -/
theorem refTiles_at (x : FVec Ideal S2048x2048 .f32) (I J : Fin 4) (r k : Fin 512) :
   refTiles x (ix4 I r J k) = x (ix2 ⟨I.val * 512 + r.val, by omega⟩ ⟨J.val * 512 + k.val, by omega⟩) := by
  pointwise [refTiles]

/-- The choice is by the two tile numbers. -/
theorem refSel_at (T D : FVec Ideal S4x512x4x512 .f32) (I J : Fin 4) (r k : Fin 512) :
   refSel T D (ix4 I r J k) = if I = J then T (ix4 I r J k) else D (ix4 I r J k) := by
  have : refSel T D (ix4 I r J k) = Scalar.select (IntOp.cmpi .eq (BitVec.ofNat 32 I.val) (BitVec.ofNat 32 J.val)) (T (ix4 I r J k)) (D (ix4 I r J k)) := rfl
  rw [this]
  fin_cases I <;> fin_cases J <;> rfl

/-- The quantiser at an index. -/
theorem refDeq_at (T : FVec Ideal S4x512x4x512 .f32) (A : FVec Ideal S4x1x4x1 .f32) (I J : Fin 4) (r k : Fin 512) :
   refDeq T A (ix4 I r J k) = min (Ideal.ofBits .f32 0x42FE0000#32) (max (Ideal.ofBits .f32 0xC2FE0000#32) (Ideal.liftRound Ideal.roundHalfEven (T (ix4 I r J k) * Ideal.div (Ideal.ofBits .f32 0x42FE0000#32) (A (ix4 I 0 J 0)))))
     * Ideal.div (A (ix4 I 0 J 0)) (Ideal.ofBits .f32 0x42FE0000#32) := by
  pointwise [refDeq]
  rfl

/-- A tile's largest magnitude and the floor, at a tile. -/
theorem floor_at (R : FVec Ideal S4x4 .f32) (I J : Fin 4) :
    maximumf (broadcastInDim S4x1x4x1 ![0, 2] bcast_S4x4_S4x1x4x1_0_2 R) (broadcastInDim S4x1x4x1 ![] bcast_S_S4x1x4x1 (constant S_ .f32 0x0DA24260#32)) (ix4 I 0 J 0)
      = max (R (ix2 I J)) (Ideal.ofBits .f32 0x0DA24260#32) := by
  pointwise []

/-- The largest entry of a tile. -/
def tileTop (Y : FVec Ideal S4x512x4x512 .f32) (j : S4x4.Idx) : Ideal .f32 :=
  Finset.fold max (Ideal.ofBits FTy.f32 0xFF800000#32) Y {i | reducesTo_S4x512x4x512_S4x4_d1_3.drop i = j}

/-- The reduction over a tile is the fold. -/
theorem fold_at (Y : FVec Ideal S4x512x4x512 .f32) (j : S4x4.Idx) :
    Host.reduce FloatOps.maximumf Y (constant S_ .f32 0xFF800000#32) reducesTo_S4x512x4x512_S4x4_d1_3 h_S_ j
      = tileTop Y j :=
  Host.reduce_eq_fold (FloatOps.maximumf (F := Ideal) (φ := .f32)) Y _ _ _ j

/-- The scale (times 127) of a tile. -/
theorem refAbs_at (T : FVec Ideal S4x512x4x512 .f32) (I J : Fin 4) :
    refAbs T (ix4 I 0 J 0) = max (tileTop (Host.absf T) (ix2 I J)) (Ideal.ofBits .f32 0x0DA24260#32) := by
  have h := floor_at (Host.reduce FloatOps.maximumf (Host.absf T) (constant S_ .f32 0xFF800000#32) reducesTo_S4x512x4x512_S4x4_d1_3 h_S_) I J
  rw [fold_at] at h
  exact h

/-- The activation at an index, as tiles. -/
theorem refXq_at (x : FVec Ideal S2048x2048 .f32) (I J : Fin 4) (r k : Fin 512) :
   refXq x (ix2 ⟨I.val * 512 + r.val, by omega⟩ ⟨J.val * 512 + k.val, by omega⟩) = refSel (refTiles x) (refDeq (refTiles x) (refAbs (refTiles x))) (ix4 I r J k) := by
  unfold refXq
  generalize refSel (refTiles x) (refDeq (refTiles x) (refAbs (refTiles x))) = Z
  pointwise []

/-- An index that the reduction sends to tile `(I, J)` lies in that tile; -/
theorem drop_fst (i : S4x512x4x512.Idx) (I J : Fin 4) (h : reducesTo_S4x512x4x512_S4x4_d1_3.drop i = ix2 I J) :
    i = ix4 I (i 1) J (i 3) := by
  have h0 := congrFun h 0
  have h1 := congrFun h 1
  funext a
  fin_cases a
  · exact h0
  · rfl
  · exact h1
  · rfl
/-- and every index of the tile is sent there. -/
theorem drop_ix4 (I J : Fin 4) (r k : Fin 512) :
   reducesTo_S4x512x4x512_S4x4_d1_3.drop (ix4 I r J k) = ix2 I J := by
  funext a
  fin_cases a
  · rfl
  · rfl

/-- The reference's result is the stages, one after the other. -/
theorem res_stages (m : (ℓ : Loc nD τ sig) → Buf (Elt Ideal) ℓ) (c : Dev nD) :
   Cert.ReferenceIdeal.Value.res_main_v39 (F := Ideal) m c = refGelu (refDot (refXq (m ((c.tc : Thread nD τ).loc main_arg0))) (m ((c.tc : Thread nD τ).loc main_arg1))) := rfl

/-! ## In terms of the tiles -/

/-- The largest entry of a tile, as a fold over rows and columns. -/
theorem top_eq (Y : FVec Ideal S4x512x4x512 .f32) (I J : Fin 4) :
    tileTop Y (ix2 I J) = Finset.fold max (Ideal.ofBits .f32 0xFF800000#32) (fun p : Fin 512 × Fin 512 => (Y (ix4 I p.1 J p.2) : EReal)) Finset.univ := by
  unfold tileTop
  refine le_antisymm ?_ ?_
  · refine (Finset.fold_max_le _).2 ⟨(Finset.le_fold_max _).2 (Or.inl le_rfl), fun i hi => ?_⟩
    have e := drop_fst i I J (Finset.mem_filter.1 hi).2
    exact (Finset.le_fold_max _).2 (Or.inr ⟨(i 1, i 3), Finset.mem_univ _, le_of_eq (congrArg Y e)⟩)
  · refine (Finset.fold_max_le _).2 ⟨(Finset.le_fold_max _).2 (Or.inl le_rfl), fun p _ => ?_⟩
    exact (Finset.le_fold_max _).2 (Or.inr ⟨ix4 I p.1 J p.2, Finset.mem_filter.2 ⟨Finset.mem_univ _, drop_ix4 I J p.1 p.2⟩, le_rfl⟩)

section Tiles
variable (X W : FVec Ideal S2048x2048 .f32)

/-- The tiles are those of the statement. -/
theorem tiles_tile (I J : Fin 4) (r k : Fin 512) : refTiles X (ix4 I r J k) = tile X I J r k := refTiles_at X I J r k

/-- The scale of a tile of the input. -/
theorem abs_tile (I J : Fin 4) : refAbs (refTiles X) (ix4 I 0 J 0) = tileMax (tile X I J) := by
  rw [refAbs_at, top_eq]
  unfold tileMax
  refine congrArg (max · _) (congrArg (fun f => Finset.fold max _ f Finset.univ) (funext fun p => ?_))
  show max (refTiles X (ix4 I p.1 J p.2) : EReal) (-(refTiles X (ix4 I p.1 J p.2))) = _
  rw [tiles_tile]

/-- The activation is what the devices see. -/
theorem xq_seen (I J : Fin 4) (r k : Fin 512) : refXq X (ix2 (at512 I r) (at512 J k)) = seen X I J r k := by
  refine (refXq_at X I J r k).trans ?_
  rw [refSel_at, refDeq_at, abs_tile, tiles_tile]
  unfold seen
  rw [deq_eq_clip]

/-- A sum over the columns is a sum over the blocks of sums over a block's columns. -/
theorem sum_blocks (f : Fin 2048 → EReal) : ∑ K : Fin 2048, f K = ∑ J : Fin 4, ∑ k : Fin 512, f (at512 J k) := by
  rw [← Fintype.sum_prod_type' (fun (J : Fin 4) (k : Fin 512) => f (at512 J k))]
  refine (Fintype.sum_equiv (finProdFinEquiv : Fin 4 × Fin 512 ≃ Fin (4 * 512)) _ _ fun p => congrArg f (Fin.ext ?_)).symm
  show p.1.val * 512 + p.2.val = p.2.val + 512 * p.1.val
  omega

/-- The product, tile by tile. -/
theorem dot_parts (I : Fin 4) (r : Fin 512) (n : Fin 2048) :
    refDot (refXq X) W (ix2 (at512 I r) n) = ∑ J : Fin 4, part X W I r n J := by
  rw [refDot_at, sum_blocks]
  refine Finset.sum_congr rfl fun J _ => Finset.sum_congr rfl fun k _ => ?_
  rw [xq_seen]

/-- The reference's result, at an index. -/
theorem reference_at (I : Fin 4) (r : Fin 512) (n : Fin 2048) :
    refGelu (refDot (refXq X) W) (ix2 (at512 I r) n) = gelu (∑ J : Fin 4, part X W I r n J) := by
  rw [refGelu_at, dot_parts, Ideal.ofBits_one_f32]
  unfold gelu
  rw [← mul_assoc, ← mul_assoc]

end Tiles

end Cert.Exchange

end
-- ==== Proof.Value.lean ====
/-
The equation: each device's result is its block of the reference's.
-/
module

public import proofs.«01_k».proof.Proof.Frames
public import proofs.«01_k».proof.Proof.Tiles
public import proofs.«01_k».proof.Proof.Reference

@[expose] public section

set_option maxRecDepth 16384

noncomputable section

namespace Cert.Exchange

open Cert.KernelIdeal Cert.KernelIdeal.Gen
open Idealize.ShloMosaic
open Idealize.ShloMosaic.TcCoe
open Idealize.SL.Sem

/-! ## The result array -/

section Final
variable {F : FTy → Type} [FloatOps F]
variable (m : (ℓ : Loc nD τ sig) → Buf (Elt F) ℓ) (ρ : Dev nD → PrngReg)

/-- The result array ends at what the body left in the output window. -/
theorem finalA_out (c : Dev nD) : finalA m ρ c (1 : Fin 2) = outAt m ρ c := by
  have h := (dats (F := F) m ρ 0 c).read_blk_arrAt_eq_flushed (1 : Fin 2)
    (fun t t' _ _ hne => absurd ((only_pt t).trans (only_pt t').symm) hne) cfg0.N pt pt.isLt (flush0_1 pt)
  exact (Memref.read_access_unit_zero (Elt F) main_v1 (by funext a; fin_cases a <;> rfl) _ _).symm.trans h

/-- The run, read at the result and the arguments. -/
theorem run_out :
    θ_run defs (onTc (τ := τ) (main (F := F))) (s₀ m ρ) (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (1 : Fin 2)).trans (finalA_out m ρ c), ((h.1 c).1 (0 : Fin 2)).trans (finalA_x m ρ c), (h.1 c).2⟩)
    (run_main m ρ)

end Final

/-! ## The equation -/

/-- The four products in the kernel's order are the sum over the tiles. -/
theorem total_eq (X W : FVec Ideal S2048x2048 .f32) (c : Dev nD) (r : Fin 512) (n : Fin 2048) :
    total X W c r n = ∑ J : Fin 4, part X W c r n J := by
  rw [Fin.sum_univ_four]
  unfold total
  generalize part X W c r n = p
  have e : ∀ c : Dev nD, p c + p (back c 0) + p (back c 2) + p (back c 1) = p 0 + p 1 + p 2 + p 3 := by
    intro c
    fin_cases c
    · show p 0 + p 3 + p 1 + p 2 = _
      ac_rfl
    · show p 1 + p 0 + p 2 + p 3 = _
      ac_rfl
    · show p 2 + p 1 + p 3 + p 0 = _
      ac_rfl
    · show p 3 + p 2 + p 0 + p 1 = _
      ac_rfl
  exact e c

/-- A device's output is its block of the reference's result. -/
theorem outAt_block (m : (ℓ : Loc nD τ sig) → Buf (Elt Ideal) ℓ) (ρ : Dev nD → PrngReg) (X W : FVec Ideal S2048x2048 .f32) (c : Dev nD)
    (hX : ∀ c : Dev nD, m ((c : Thread nD τ).loc main_arg0) = Layout.block S2048x512 S2048x2048 1 4 c X)
    (hW : m ((c : Thread nD τ).loc main_arg1) = W) :
    outAt m ρ c = Layout.block S512x2048 S2048x2048 0 4 c (refGelu (refDot (refXq X) W)) := by
  funext i
  have hi : i = ix2 (i 0 : Fin 512) (i 1 : Fin 2048) := by funext a; fin_cases a <;> rfl
  have hb : Layout.block S512x2048 S2048x2048 0 4 c (refGelu (refDot (refXq X) W)) (by decide) i
      = refGelu (refDot (refXq X) W) (ix2 (at512 c (i 0)) (i 1)) := by
    rw [Layout.block_apply]
    congr 1
    funext a
    fin_cases a
    · refine Fin.ext ?_
      exact Layout.Tiles.idx_val_self (S := S512x2048) (T := S2048x2048) (a := 0) (k := 4) (by decide) c i 0 (by decide)
    · refine Fin.ext ?_
      exact Layout.Tiles.idx_val_of_ne (S := S512x2048) (T := S2048x2048) (a := 0) (k := 4) (by decide) c i 1 (by decide)
  refine Eq.trans ((congrArg _ hi).trans (outAt_at m ρ X W c hX hW (i 0) (i 1))) (hb.trans ((reference_at X W c (i 0) (i 1)).trans ?_)).symm
  exact congrArg gelu (total_eq X W c (i 0) (i 1)).symm

/-- Kernel and reference compute the same function: each device ends with its rows of the reference's result. -/
theorem value : Cert.algebraic_KernelIdeal_ReferenceIdeal := fun m ρ m' ρ' _ hin =>
  ⟨Cert.ReferenceIdeal.Value.res_main_v39 (F := Ideal) m' 0,
    (θ_run defs _ _).mono (fun _ h c => ⟨((h c).1.trans (outAt_block m ρ _ _ c (fun c => (hin c).1) (hin c).2)).trans
        (congrArg (fun v => Layout.block S512x2048 S2048x2048 0 4 c v) (res_stages m' 0).symm), (h c).2⟩) (run_out m ρ),
    (θ_run Cert.ReferenceIdeal.defs _ _).mono (fun _ h => h 0) (Cert.ReferenceIdeal.Value.run (F := Ideal) m' ρ')⟩

end Cert.Exchange

end
-- ==== Proof.lean ====
/-
The five claims assembled. The run of the kernel on the four devices is in Proof/Launch.lean, the frames in
Proof/Frames.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_kernel_ideal, Cert.Exchange.frame_reference, trivial, Cert.Exchange.value⟩

end Cert.Proof

end
